-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_v38) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel2_Kernel2Ideal : Prop :=
  IdealRules.named_const.Statement Cert.Kernel2Ideal.κ "inv_sqrt_dk" .f32 0x3DB504F3#32 (((Real.sqrt 128)⁻¹ : ℝ) : EReal)
  ∧ IdealRules.named_const.Statement Cert.Kernel2Ideal.κ "log2e_over_sqrt_d" .f32 0x3E38AA3B#32 ((((Real.sqrt 64) * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v83_0)) (v1 : (c : Dev Cert.Kernel2Ideal.nD) → Buf (Elt Ideal) ((c.tc : Thread Cert.Kernel2Ideal.nD Cert.Kernel2Ideal.τ).loc Cert.Kernel2Ideal.main_v83_1)) (v2 : (c : Dev Cert.Kernel2Ideal.nD) → Buf (Elt Ideal) ((c.tc : Thread Cert.Kernel2Ideal.nD Cert.Kernel2Ideal.τ).loc Cert.Kernel2Ideal.main_v83_2)) (v3 : (c : Dev Cert.Kernel2Ideal.nD) → Buf (Elt Ideal) ((c.tc : Thread Cert.Kernel2Ideal.nD Cert.Kernel2Ideal.τ).loc Cert.Kernel2Ideal.main_v83_3)) (v4 : (c : Dev Cert.Kernel2Ideal.nD) → Buf (Elt Ideal) ((c.tc : Thread Cert.Kernel2Ideal.nD Cert.Kernel2Ideal.τ).loc Cert.Kernel2Ideal.main_v83_4)) (v5 : (c : Dev Cert.Kernel2Ideal.nD) → Buf (Elt Ideal) ((c.tc : Thread Cert.Kernel2Ideal.nD Cert.Kernel2Ideal.τ).loc Cert.Kernel2Ideal.main_v83_5)) (v6 : (c : Dev Cert.Kernel2Ideal.nD) → Buf (Elt Ideal) ((c.tc : Thread Cert.Kernel2Ideal.nD Cert.Kernel2Ideal.τ).loc Cert.Kernel2Ideal.main_v83_6)) (v7 : (c : Dev Cert.Kernel2Ideal.nD) → Buf (Elt Ideal) ((c.tc : Thread Cert.Kernel2Ideal.nD Cert.Kernel2Ideal.τ).loc Cert.Kernel2Ideal.main_v83_7)) (v8 : (c : Dev Cert.Kernel2Ideal.nD) → Buf (Elt Ideal) ((c.tc : Thread Cert.Kernel2Ideal.nD Cert.Kernel2Ideal.τ).loc Cert.Kernel2Ideal.main_v83_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v83_0) = v0 c
          ∧ r.2.mem ((c.tc : Thread Cert.Kernel2Ideal.nD Cert.Kernel2Ideal.τ).loc Cert.Kernel2Ideal.main_v83_1) = v1 c
          ∧ r.2.mem ((c.tc : Thread Cert.Kernel2Ideal.nD Cert.Kernel2Ideal.τ).loc Cert.Kernel2Ideal.main_v83_2) = v2 c
          ∧ r.2.mem ((c.tc : Thread Cert.Kernel2Ideal.nD Cert.Kernel2Ideal.τ).loc Cert.Kernel2Ideal.main_v83_3) = v3 c
          ∧ r.2.mem ((c.tc : Thread Cert.Kernel2Ideal.nD Cert.Kernel2Ideal.τ).loc Cert.Kernel2Ideal.main_v83_4) = v4 c
          ∧ r.2.mem ((c.tc : Thread Cert.Kernel2Ideal.nD Cert.Kernel2Ideal.τ).loc Cert.Kernel2Ideal.main_v83_5) = v5 c
          ∧ r.2.mem ((c.tc : Thread Cert.Kernel2Ideal.nD Cert.Kernel2Ideal.τ).loc Cert.Kernel2Ideal.main_v83_6) = v6 c
          ∧ r.2.mem ((c.tc : Thread Cert.Kernel2Ideal.nD Cert.Kernel2Ideal.τ).loc Cert.Kernel2Ideal.main_v83_7) = v7 c
          ∧ r.2.mem ((c.tc : Thread Cert.Kernel2Ideal.nD Cert.Kernel2Ideal.τ).loc Cert.Kernel2Ideal.main_v83_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v127) = v0 c
          ∧ r.2.mem ((c.tc : Thread Cert.Reference2Ideal.nD Cert.Reference2Ideal.τ).loc Cert.Reference2Ideal.main_v129) = v1 c
          ∧ r.2.mem ((c.tc : Thread Cert.Reference2Ideal.nD Cert.Reference2Ideal.τ).loc Cert.Reference2Ideal.main_v130) = v2 c
          ∧ r.2.mem ((c.tc : Thread Cert.Reference2Ideal.nD Cert.Reference2Ideal.τ).loc Cert.Reference2Ideal.main_v131) = v3 c
          ∧ r.2.mem ((c.tc : Thread Cert.Reference2Ideal.nD Cert.Reference2Ideal.τ).loc Cert.Reference2Ideal.main_v133) = v4 c
          ∧ r.2.mem ((c.tc : Thread Cert.Reference2Ideal.nD Cert.Reference2Ideal.τ).loc Cert.Reference2Ideal.main_v135) = v5 c
          ∧ r.2.mem ((c.tc : Thread Cert.Reference2Ideal.nD Cert.Reference2Ideal.τ).loc Cert.Reference2Ideal.main_v136) = v6 c
          ∧ r.2.mem ((c.tc : Thread Cert.Reference2Ideal.nD Cert.Reference2Ideal.τ).loc Cert.Reference2Ideal.main_v137) = v7 c
          ∧ r.2.mem ((c.tc : Thread Cert.Reference2Ideal.nD Cert.Reference2Ideal.τ).loc Cert.Reference2Ideal.main_v138) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal)
-- ==== Pre_finite.lean ====
abbrev S65536x1024 : Shape := ⟨2, ![65536, 1024]⟩
abbrev S8192x1024 : Shape := ⟨2, ![8192, 1024]⟩
abbrev S4x64 : Shape := ⟨2, ![4, 64]⟩
abbrev S1024 : Shape := ⟨1, ![1024]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)
  bcast_S_S8192x1024 : S_.BroadcastsInDim S8192x1024 (![] : Fin 0 → Fin S8192x1024.rank)
  bcast_S_S4x64 : S_.BroadcastsInDim S4x64 (![] : Fin 0 → Fin S4x64.rank)

variable [Facts]

def fn_part1 {F : FTy → Type} [FloatOps F] (main_arg5 : FVec F S4x64 .f32) (main_v3 : IVec S65536x1024 1) (main_v7 : IVec S65536x1024 1) (main_v11 : IVec S65536x1024 1) (main_v15 : IVec S8192x1024 1) (main_v17 : FVec F S8192x1024 .f32) (main_v18 : FVec F S8192x1024 .f32) : IVec S65536x1024 1 × IVec S65536x1024 1 × IVec S65536x1024 1 × IVec S8192x1024 1 × IVec S8192x1024 1 × IVec S4x64 1 :=
  let main_v19 : IVec S8192x1024 1 := cmpf .olt main_v17 main_v18
  let main_v20 : FVec F S4x64 .f32 := Host.absf main_arg5
  let main_cst_4 : FVec F S_ .f32 := constant S_ .f32 0x7F800000#32
  let main_v21 : FVec F S4x64 .f32 := broadcastInDim S4x64 ![] bcast_S_S4x64 main_cst_4
  let main_v22 : IVec S4x64 1 := cmpf .olt main_v20 main_v21
  (main_v3, main_v7, main_v11, main_v15, main_v19, main_v22)

def fn {F : FTy → Type} [FloatOps F] (main_arg0 : FVec F S65536x1024 .bf16) (main_arg1 : FVec F S65536x1024 .bf16) (main_arg2 : FVec F S65536x1024 .bf16) (main_arg3 : FVec F S8192x1024 .bf16) (main_arg4 : FVec F S8192x1024 .bf16) (main_arg5 : FVec F S4x64 .f32) (main_arg6 : FVec F S1024 .f32) : IVec S65536x1024 1 × IVec S65536x1024 1 × IVec S65536x1024 1 × IVec S8192x1024 1 × IVec S8192x1024 1 × IVec S4x64 1 :=
  let main_v0 : FVec F S65536x1024 .f32 := (extf .f32 · bitsLt_bf16_f32) main_arg0
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_v4 : FVec F S65536x1024 .f32 := (extf .f32 · bitsLt_bf16_f32) main_arg1
  let main_v5 : FVec F S65536x1024 .f32 := Host.absf main_v4
  let main_cst_0 : FVec F S_ .f32 := constant S_ .f32 0x7F800000#32
  let main_v6 : FVec F S65536x1024 .f32 := broadcastInDim S65536x1024 ![] bcast_S_S65536x1024 main_cst_0
  let main_v7 : IVec S65536x1024 1 := cmpf .olt main_v5 main_v6
  let main_v8 : FVec F S65536x1024 .f32 := (extf .f32 · bitsLt_bf16_f32) main_arg2
  let main_v9 : FVec F S65536x1024 .f32 := Host.absf main_v8
  let main_cst_1 : FVec F S_ .f32 := constant S_ .f32 0x7F800000#32
  let main_v10 : FVec F S65536x1024 .f32 := broadcastInDim S65536x1024 ![] bcast_S_S65536x1024 main_cst_1
  let main_v11 : IVec S65536x1024 1 := cmpf .olt main_v9 main_v10
  let main_v12 : FVec F S8192x1024 .f32 := (extf .f32 · bitsLt_bf16_f32) main_arg3
  let main_v13 : FVec F S8192x1024 .f32 := Host.absf main_v12
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  let main_v16 : FVec F S8192x1024 .f32 := (extf .f32 · bitsLt_bf16_f32) main_arg4
  let main_v17 : FVec F S8192x1024 .f32 := Host.absf main_v16
  let main_cst_3 : FVec F S_ .f32 := constant S_ .f32 0x7F800000#32
  let main_v18 : FVec F S8192x1024 .f32 := broadcastInDim S8192x1024 ![] bcast_S_S8192x1024 main_cst_3
  fn_part1 (F := F) main_arg5 main_v3 main_v7 main_v11 main_v15 main_v17 main_v18
-- ==== Kernel.lean ====
abbrev S65536x1024 : Shape := ⟨2, ![65536, 1024]⟩
abbrev S8192x1024 : Shape := ⟨2, ![8192, 1024]⟩
abbrev S4x64 : Shape := ⟨2, ![4, 64]⟩
abbrev S1024 : Shape := ⟨1, ![1024]⟩
abbrev S1x1024 : Shape := ⟨2, ![1, 1024]⟩
abbrev S2048x128 : Shape := ⟨2, ![2048, 128]⟩
abbrev S256x128 : Shape := ⟨2, ![256, 128]⟩
abbrev S1x128 : Shape := ⟨2, ![1, 128]⟩
abbrev S2048x256 : Shape := ⟨2, ![2048, 256]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S128x128 : Shape := ⟨2, ![128, 128]⟩
abbrev S128x2048 : Shape := ⟨2, ![128, 2048]⟩
abbrev S128x256 : Shape := ⟨2, ![128, 256]⟩
abbrev S128 : Shape := ⟨1, ![128]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S8192x1024, .bf16⟩
  | .hbm, ⟨4, _⟩ => ⟨S8192x1024, .bf16⟩
  | .hbm, ⟨5, _⟩ => ⟨S4x64, .f32⟩
  | .hbm, ⟨6, _⟩ => ⟨S1024, .f32⟩
  | .hbm, ⟨7, _⟩ => ⟨S1x1024, .f32⟩
  | .hbm, ⟨8, _⟩ => ⟨S65536x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S4x64, .f32⟩
  | .local _ .vmem, ⟨11, _⟩ => ⟨S1x128, .f32⟩
  | .local _ .vmem, ⟨12, _⟩ => ⟨S1x128, .f32⟩
  | .local _ .vmem, ⟨13, _⟩ => ⟨S2048x128, .bf16⟩
  | .local _ .vmem, ⟨14, _⟩ => ⟨S2048x128, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S65536x1024 : Shape := ⟨2, ![65536, 1024]⟩
abbrev S8192x1024 : Shape := ⟨2, ![8192, 1024]⟩
abbrev S4x64 : Shape := ⟨2, ![4, 64]⟩
abbrev S1024 : Shape := ⟨1, ![1024]⟩
abbrev S32x2048x8x2x64 : Shape := ⟨5, ![32, 2048, 8, 2, 64]⟩
abbrev S32x8x2x2048x64 : Shape := ⟨5, ![32, 8, 2, 2048, 64]⟩
abbrev S32x256x8x2x64 : Shape := ⟨5, ![32, 256, 8, 2, 64]⟩
abbrev S32x8x2x256x64 : Shape := ⟨5, ![32, 8, 2, 256, 64]⟩
abbrev S32x2048x8x128 : Shape := ⟨4, ![32, 2048, 8, 128]⟩
abbrev S32x8x2048x128 : Shape := ⟨4, ![32, 8, 2048, 128]⟩
abbrev S32x256x8x128 : Shape := ⟨4, ![32, 256, 8, 128]⟩
abbrev S32x8x256x128 : Shape := ⟨4, ![32, 8, 256, 128]⟩
abbrev S32x8x2x2304x64 : Shape := ⟨5, ![32, 8, 2, 2304, 64]⟩
abbrev S32x8x2304x128 : Shape := ⟨4, ![32, 8, 2304, 128]⟩
abbrev S1x64 : Shape := ⟨2, ![1, 64]⟩
abbrev S64 : Shape := ⟨1, ![64]⟩
abbrev S_ : Shape := ⟨0, ![]⟩
abbrev S32x8x2x2048x2304 : Shape := ⟨5, ![32, 8, 2, 2048, 2304]⟩
abbrev S32x8x2x2048 : Shape := ⟨4, ![32, 8, 2, 2048]⟩
abbrev S32x8x2x2048x1 : Shape := ⟨5, ![32, 8, 2, 2048, 1]⟩
abbrev S32x8x1x2048x2304 : Shape := ⟨5, ![32, 8, 1, 2048, 2304]⟩
abbrev S32x8x2048x2304 : Shape := ⟨4, ![32, 8, 2048, 2304]⟩
abbrev S32x8x2048 : Shape := ⟨3, ![32, 8, 2048]⟩
abbrev S32x8x2048x1 : Shape := ⟨4, ![32, 8, 2048, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S8192x1024, .bf16⟩
  | .hbm, ⟨4, _⟩ => ⟨S8192x1024, .bf16⟩
  | .hbm, ⟨5, _⟩ => ⟨S4x64, .f32⟩
  | .hbm, ⟨6, _⟩ => ⟨S1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S8192x1024, .f32⟩
  | .hbm, ⟨11, _⟩ => ⟨S8192x1024, .f32⟩
  | .hbm, ⟨12, _⟩ => ⟨S32x2048x8x2x64, .f32⟩
  | .hbm, ⟨13, _⟩ => ⟨S32x8x2x2048x64, .f32⟩
  | .hbm, ⟨14, _⟩ => ⟨S32x2048x8x2x64, .f32⟩
  | .hbm, ⟨15, _⟩ => ⟨S32x8x2x2048x64, .f32⟩
  | .hbm, ⟨16, _⟩ => ⟨S32x256x8x2x64, .f32⟩
  | .hbm, ⟨17, _⟩ => ⟨S32x8x2x256x64, .f32⟩
  | .hbm, ⟨18, _⟩ => ⟨S32x2048x8x128, .f32⟩
  | .hbm, ⟨19, _⟩ => ⟨S32x8x2048x128, .f32⟩
  | .hbm, ⟨20, _⟩ => ⟨S32x256x8x128, .f32⟩
  | .hbm, ⟨21, _⟩ => ⟨S32x8x256x128, .f32⟩
  | .hbm, ⟨22, _⟩ => ⟨S32x8x2x2304x64, .f32⟩
  | .hbm, ⟨23, _⟩ => ⟨S32x8x2304x128, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S32x8x2x2048x64, .f32⟩
  | .hbm, ⟨48, _⟩ => ⟨S32x8x2x2048x64, .f32⟩
  | .hbm, ⟨49, _⟩ => ⟨S32x8x2x2048x2304, .f32⟩
  | .hbm, ⟨50, _⟩ => ⟨S_, .f32⟩
  | .hbm, ⟨51, _⟩ => ⟨S32x8x2x2048x2304, .f32⟩
  | .hbm, ⟨52, _⟩ => ⟨S32x8x2x2048x2304, .f32⟩
  | .hbm, ⟨53, _⟩ => ⟨S_, .f32⟩
  | .hbm, ⟨54, _⟩ => ⟨S32x8x2x2048, .f32⟩
  | .hbm, ⟨55, _⟩ => ⟨S_, .f32⟩
  | .hbm, ⟨56, _⟩ => ⟨S32x8x2x2048, .f32⟩
  | .hbm, ⟨57, _⟩ => ⟨S32x8x2x2048, .f32⟩
  | .hbm, ⟨58, _⟩ => ⟨S32x8x2x2048x1, .f32⟩
  | .hbm, ⟨59, _⟩ => ⟨S32x8x2x2048x2304, .f32⟩
  | .hbm, ⟨60, _⟩ => ⟨S32x8x2x2048x2304, .f32⟩
  | .hbm, ⟨61, _⟩ => ⟨S32x8x2x2048x2304, .f32⟩
  | .hbm, ⟨62, _⟩ => ⟨S_, .f32⟩
  | .hbm, ⟨63, _⟩ => ⟨S32x8x2x2048, .f32⟩
  | .hbm, ⟨64, _⟩ => ⟨S32x8x2x2048x1, .f32⟩
  | .hbm, ⟨65, _⟩ => ⟨S32x8x2x2048x2304, .f32⟩
  | .hbm, ⟨66, _⟩ => ⟨S32x8x2x2048x2304, .f32⟩
  | .hbm, ⟨67, _⟩ => ⟨S32x8x1x2048x2304, .f32⟩
  | .hbm, ⟨68, _⟩ => ⟨S32x8x2048x2304, .f32⟩
  | .hbm, ⟨69, _⟩ => ⟨S32x8x1x2048x2304, .f32⟩
  | .hbm, ⟨70, _⟩ => ⟨S32x8x2048x2304, .f32⟩
  | .hbm, ⟨71, _⟩ => ⟨S32x8x2048x2304, .f32⟩
  | .hbm, ⟨72, _⟩ => ⟨S32x8x2048x2304, .f32⟩
  | .hbm, ⟨73, _⟩ => ⟨S32x8x2048x2304, .f32⟩
  | .hbm, ⟨74, _⟩ => ⟨S32x8x2048x128, .f32⟩
  | .hbm, ⟨75, _⟩ => ⟨S32x8x2048x128, .f32⟩
  | .hbm, ⟨76, _⟩ => ⟨S_, .f32⟩
  | .hbm, ⟨77, _⟩ => ⟨S32x8x2048, .f32⟩
  | .hbm, ⟨78, _⟩ => ⟨S32x8x2048x1, .f32⟩
  | .hbm, ⟨79, _⟩ => ⟨S_, .f32⟩
  | .hbm, ⟨80, _⟩ => ⟨S32x8x2048x1, .f32⟩
  | .hbm, ⟨81, _⟩ => ⟨S32x8x2048x1, .f32⟩
  | .hbm, ⟨82, _⟩ => ⟨S_, .f32⟩
  | .hbm, ⟨83, _⟩ => ⟨S32x8x2048x1, .f32⟩
  | .hbm, ⟨84, _⟩ => ⟨S32x8x2048x1, .f32⟩
  | .hbm, ⟨85, _⟩ => ⟨S32x8x2048x1, .f32⟩
  | .hbm, ⟨86, _⟩ => ⟨S32x8x2048x128, .f32⟩
  | .hbm, ⟨87, _⟩ => ⟨S32x8x2048x128, .f32⟩
  | .hbm, ⟨88, _⟩ => ⟨S_, .f32⟩
  | .hbm, ⟨89, _⟩ => ⟨S32x8x2048x128, .f32⟩
  | .hbm, ⟨90, _⟩ => ⟨S32x8x2048x128, .f32⟩
  | .hbm, ⟨91, _⟩ => ⟨S32x2048x8x128, .f32⟩
  | .hbm, ⟨92, _⟩ => ⟨S65536x1024, .f32⟩
  | .hbm, ⟨93, _⟩ => ⟨S1x1024, .f32⟩
  | .hbm, ⟨94, _⟩ => ⟨S65536x1024, .f32⟩
  | .hbm, ⟨95, _⟩ => ⟨S65536x1024, .f32⟩
  | .hbm, ⟨96, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1x1x1024 : Shape := ⟨3, ![1, 1, 1024]⟩
abbrev S1024x8192 : Shape := ⟨2, ![1024, 8192]⟩
abbrev S1x1024 : Shape := ⟨2, ![1, 1024]⟩
abbrev S8192x512 : Shape := ⟨2, ![8192, 512]⟩
abbrev S256x1024 : Shape := ⟨2, ![256, 1024]⟩
abbrev S256x512 : Shape := ⟨2, ![256, 512]⟩
abbrev S128x1024 : Shape := ⟨2, ![128, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x8192, .bf16⟩
  | .hbm, ⟨5, _⟩ => ⟨S1x1024, .f32⟩
  | .hbm, ⟨6, _⟩ => ⟨S8192x512, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x8192, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x1024 : Shape := ⟨2, ![8192, 1024]⟩
abbrev S1024 : Shape := ⟨1, ![1024]⟩
abbrev S1x1x1024 : Shape := ⟨3, ![1, 1, 1024]⟩
abbrev S1024x8192 : Shape := ⟨2, ![1024, 8192]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S32x256x8192 : Shape := ⟨3, ![32, 256, 8192]⟩
abbrev S32x256x512 : Shape := ⟨3, ![32, 256, 512]⟩
abbrev S8192x512 : Shape := ⟨2, ![8192, 512]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x8192, .bf16⟩
  | .hbm, ⟨5, _⟩ => ⟨S32x256x1024, .f32⟩
  | .hbm, ⟨6, _⟩ => ⟨S32x256x1024, .f32⟩
  | .hbm, ⟨7, _⟩ => ⟨S_, .f32⟩
  | .hbm, ⟨8, _⟩ => ⟨S32x256, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S32x256x1, .f32⟩
  | .hbm, ⟨17, _⟩ => ⟨S32x256x1024, .f32⟩
  | .hbm, ⟨18, _⟩ => ⟨S32x256x1024, .f32⟩
  | .hbm, ⟨19, _⟩ => ⟨S1x1x1024, .f32⟩
  | .hbm, ⟨20, _⟩ => ⟨S32x256x1024, .f32⟩
  | .hbm, ⟨21, _⟩ => ⟨S32x256x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S32x256x1024, .f32⟩
  | .hbm, ⟨28, _⟩ => ⟨S32x256x1024, .f32⟩
  | .hbm, ⟨29, _⟩ => ⟨S1024x8192, .f32⟩
  | .hbm, ⟨30, _⟩ => ⟨S32x256x8192, .f32⟩
  | .hbm, ⟨31, _⟩ => ⟨S32x256x512, .f32⟩
  | .hbm, ⟨32, _⟩ => ⟨S32x256x512, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x1024, .f32⟩
  | .hbm, ⟨39, _⟩ => ⟨S32x256x1024, .f32⟩
  | .hbm, ⟨40, _⟩ => ⟨S8192x512, .f32⟩
  | .hbm, ⟨41, _⟩ => ⟨S8192x512, .bf16⟩
  | .hbm, ⟨42, _⟩ => ⟨S8192x1024, .f32⟩
  | .hbm, ⟨43, _⟩ => ⟨S8192x1024, .bf16⟩
  | .hbm, ⟨44, _⟩ => ⟨S8192x1024, .f32⟩
  | .hbm, ⟨45, _⟩ => ⟨S8192x1024, .bf16⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel4.lean ====
abbrev S65536x1024 : Shape := ⟨2, ![65536, 1024]⟩
abbrev S1024x1024 : Shape := ⟨2, ![1024, 1024]⟩
abbrev S1024 : Shape := ⟨1, ![1024]⟩
abbrev S32x1x1024 : Shape := ⟨3, ![32, 1, 1024]⟩
abbrev S1x1024 : Shape := ⟨2, ![1, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 20
  | .vmem => 25
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S65536x1024, .f32⟩
  | .hbm, ⟨19, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | .local _ .vmem, ⟨24, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S65536x1024 : Shape := ⟨2, ![65536, 1024]⟩
abbrev S1024x1024 : Shape := ⟨2, ![1024, 1024]⟩
abbrev S1024 : Shape := ⟨1, ![1024]⟩
abbrev S32x1x1024 : Shape := ⟨3, ![32, 1, 1024]⟩
abbrev S32x2048x1024 : Shape := ⟨3, ![32, 2048, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x2048x1024, .f32⟩
  | .hbm, ⟨14, _⟩ => ⟨S32x2048x1024, .bf16⟩
  | .hbm, ⟨15, _⟩ => ⟨S32x2048x1024, .f32⟩
  | .hbm, ⟨16, _⟩ => ⟨S32x2048x1024, .bf16⟩
  | .hbm, ⟨17, _⟩ => ⟨S32x2048x1024, .f32⟩
  | .hbm, ⟨18, _⟩ => ⟨S32x2048x1024, .bf16⟩
  | .hbm, ⟨19, _⟩ => ⟨S32x2048x1024, .f32⟩
  | .hbm, ⟨20, _⟩ => ⟨S32x2048x1024, .bf16⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x2048, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S_, .f32⟩
  | .hbm, ⟨36, _⟩ => ⟨S32x2048x1, .f32⟩
  | .hbm, ⟨37, _⟩ => ⟨S32x2048x1, .f32⟩
  | .hbm, ⟨38, _⟩ => ⟨S32x2048x1, .f32⟩
  | .hbm, ⟨39, _⟩ => ⟨S32x2048x1024, .f32⟩
  | .hbm, ⟨40, _⟩ => ⟨S32x2048x1024, .f32⟩
  | .hbm, ⟨41, _⟩ => ⟨S1x1x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S32x2048x1024, .f32⟩
  | .hbm, ⟨47, _⟩ => ⟨S32x2048x1024, .f32⟩
  | .hbm, ⟨48, _⟩ => ⟨S_, .f32⟩
  | .hbm, ⟨49, _⟩ => ⟨S32x2048, .f32⟩
  | .hbm, ⟨50, _⟩ => ⟨S32x2048x1, .f32⟩
  | .hbm, ⟨51, _⟩ => ⟨S_, .f32⟩
  | .hbm, ⟨52, _⟩ => ⟨S32x2048x1, .f32⟩
  | .hbm, ⟨53, _⟩ => ⟨S32x2048x1, .f32⟩
  | .hbm, ⟨54, _⟩ => ⟨S_, .f32⟩
  | .hbm, ⟨55, _⟩ => ⟨S32x2048x1, .f32⟩
  | .hbm, ⟨56, _⟩ => ⟨S32x2048x1, .f32⟩
  | .hbm, ⟨57, _⟩ => ⟨S32x2048x1, .f32⟩
  | .hbm, ⟨58, _⟩ => ⟨S32x2048x1024, .f32⟩
  | .hbm, ⟨59, _⟩ => ⟨S32x2048x1024, .f32⟩
  | .hbm, ⟨60, _⟩ => ⟨S1x1x1024, .f32⟩
  | .hbm, ⟨61, _⟩ => ⟨S32x2048x1024, .f32⟩
  | .hbm, ⟨62, _⟩ => ⟨S32x2048x1024, .f32⟩
  | .hbm, ⟨63, _⟩ => ⟨S_, .f32⟩
  | .hbm, ⟨64, _⟩ => ⟨S32x1x1024, .f32⟩
  | .hbm, ⟨65, _⟩ => ⟨S32x1x1024, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | .hbm, ⟨70, _⟩ => ⟨S65536x1024, .f32⟩
  | .hbm, ⟨71, _⟩ => ⟨S65536x1024, .f32⟩
  | .hbm, ⟨72, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S32x1x1024 : Shape := ⟨3, ![32, 1, 1024]⟩
abbrev S1024x8192 : Shape := ⟨2, ![1024, 8192]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S128 : Shape := ⟨1, ![128]⟩
abbrev S_ : Shape := ⟨0, ![]⟩
abbrev S128x1 : Shape := ⟨2, ![128, 1]⟩
abbrev S1x128 : Shape := ⟨2, ![1, 128]⟩
abbrev S2048x1 : Shape := ⟨2, ![2048, 1]⟩
abbrev S2048x128 : Shape := ⟨2, ![2048, 128]⟩
abbrev S16 : Shape := ⟨1, ![16]⟩
abbrev S1x1024 : Shape := ⟨2, ![1, 1024]⟩
abbrev S65536x512 : Shape := ⟨2, ![65536, 512]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩

abbrev nBuf : Space → Nat
  | .hbm => 257
  | .vmem => 38
  | .smem => 0
  | _ => 0

abbrev hbmTy0_0 (i : Nat) : BufTy := match i % 128 with
  | 0 => ⟨S65536x1024, .f32⟩
  | 1 => ⟨S1024, .f32⟩
  | 2 => ⟨S32x1x1024, .f32⟩
  | 3 => ⟨S32x1x1024, .f32⟩
  | 4 => ⟨S1024x8192, .bf16⟩
  | 5 => ⟨S32, .f32⟩
  | 6 => ⟨S32x64, .f32⟩
  | 7 => ⟨S2048, .f32⟩
  | 8 => ⟨S64, .f32⟩
  | 9 => ⟨S1x64, .f32⟩
  | 10 => ⟨S32x64, .f32⟩
  | 11 => ⟨S2048, .f32⟩
  | 12 => ⟨S128, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S128, .i32⟩
  | 20 => ⟨S128, .i32⟩
  | 21 => ⟨S_, .i32⟩
  | 22 => ⟨S128, .i32⟩
  | 23 => ⟨S128, .i1⟩
  | 24 => ⟨S_, .i32⟩
  | 25 => ⟨S128, .i32⟩
  | 26 => ⟨S128, .i1⟩
  | 27 => ⟨S_, .i32⟩
  | 28 => ⟨S_, .i1⟩
  | 29 => ⟨S128, .i1⟩
  | 30 => ⟨S128, .i1⟩
  | 31 => ⟨S128, .i1⟩
  | 32 => ⟨S128, .i32⟩
  | 33 => ⟨S128, .i32⟩
  | 34 => ⟨S128, .i32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S128, .i32⟩
  | 50 => ⟨S128, .i32⟩
  | 51 => ⟨S_, .i32⟩
  | 52 => ⟨S128, .i32⟩
  | 53 => ⟨S128, .i1⟩
  | 54 => ⟨S_, .i32⟩
  | 55 => ⟨S128, .i32⟩
  | 56 => ⟨S128, .i1⟩
  | 57 => ⟨S_, .i32⟩
  | 58 => ⟨S_, .i1⟩
  | 59 => ⟨S128, .i1⟩
  | 60 => ⟨S128, .i1⟩
  | 61 => ⟨S128, .i1⟩
  | 62 => ⟨S128, .i32⟩
  | 63 => ⟨S128, .i32⟩
  | 64 => ⟨S128, .i32⟩
  | 65 => ⟨S_, .i32⟩
  | 66 => ⟨S128, .i32⟩
  | 67 => ⟨S128, .i1⟩
  | 68 => ⟨S_, .i32⟩
  | 69 => ⟨S128, .i32⟩
  | 70 => ⟨S128, .i32⟩
  | 71 => ⟨S128, .i32⟩
  | 72 => ⟨S128x1, .i32⟩
  | 73 => ⟨S128, .f32⟩
  | 74 => ⟨S_, .i32⟩
  | 75 => ⟨S128, .i32⟩
  | 76 => ⟨S128, .i1⟩
  | 77 => ⟨S1x128, .i1⟩
  | 78 => ⟨S2048x1, .f32⟩
  | 79 => ⟨S2048x1, .f32⟩
  | 80 => ⟨S2048x128, .i1⟩
  | 81 => ⟨S2048x128, .f32⟩
  | 82 => ⟨S2048x128, .f32⟩
  | 83 => ⟨S2048x128, .f32⟩
  | 84 => ⟨S1x128, .f32⟩
  | 85 => ⟨S2048x128, .f32⟩
  | 86 => ⟨S2048x128, .f32⟩
  | 87 => ⟨S2048x128, .f32⟩
  | 88 => ⟨S2048x128, .f32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S128, .i32⟩
  | 96 => ⟨S128, .i32⟩
  | 97 => ⟨S_, .i32⟩
  | 98 => ⟨S128, .i32⟩
  | 99 => ⟨S128, .i1⟩
  | 100 => ⟨S_, .i32⟩
  | 101 => ⟨S128, .i32⟩
  | 102 => ⟨S128, .i1⟩
  | 103 => ⟨S_, .i32⟩
  | 104 => ⟨S_, .i1⟩
  | 105 => ⟨S128, .i1⟩
  | 106 => ⟨S128, .i1⟩
  | 107 => ⟨S128, .i1⟩
  | 108 => ⟨S128, .i32⟩
  | 109 => ⟨S128, .i32⟩
  | 110 => ⟨S128, .i32⟩
  | 111 => ⟨S_, .i32⟩
  | 112 => ⟨S128, .i32⟩
  | 113 => ⟨S128, .i1⟩
  | 114 => ⟨S1x128, .i1⟩
  | 115 => ⟨S2048x128, .f32⟩
  | 116 => ⟨S_, .f32⟩
  | 117 => ⟨S_, .f32⟩
  | 118 => ⟨S2048x128, .i1⟩
  | 119 => ⟨S2048x128, .f32⟩
  | 120 => ⟨S2048x128, .f32⟩
  | 121 => ⟨S_, .f32⟩
  | 122 => ⟨S_, .f32⟩
  | 123 => ⟨S2048x128, .i1⟩
  | 124 => ⟨S2048x128, .f32⟩
  | 125 => ⟨S2048x128, .f32⟩
  | 126 => ⟨S32, .f32⟩
  | 127 => ⟨S32x64, .f32⟩
  | _ => ⟨S65536x1024, .f32⟩

abbrev hbmTy0_1 (i : Nat) : BufTy := match i % 128 with
  | 0 => ⟨S2048, .f32⟩
  | 1 => ⟨S64, .f32⟩
  | 2 => ⟨S1x64, .f32⟩
  | 3 => ⟨S32x64, .f32⟩
  | 4 => ⟨S2048, .f32⟩
  | 5 => ⟨S128, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S128, .i32⟩
  | 13 => ⟨S128, .i32⟩
  | 14 => ⟨S_, .i32⟩
  | 15 => ⟨S128, .i32⟩
  | 16 => ⟨S128, .i1⟩
  | 17 => ⟨S_, .i32⟩
  | 18 => ⟨S128, .i32⟩
  | 19 => ⟨S128, .i1⟩
  | 20 => ⟨S_, .i32⟩
  | 21 => ⟨S_, .i1⟩
  | 22 => ⟨S128, .i1⟩
  | 23 => ⟨S128, .i1⟩
  | 24 => ⟨S128, .i1⟩
  | 25 => ⟨S128, .i32⟩
  | 26 => ⟨S128, .i32⟩
  | 27 => ⟨S128, .i32⟩
  | 28 => ⟨S16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S128, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i1⟩
  | 50 => ⟨S_, .i32⟩
  | 51 => ⟨S_, .i1⟩
  | 52 => ⟨S128, .i1⟩
  | 53 => ⟨S128, .i1⟩
  | 54 => ⟨S128, .i1⟩
  | 55 => ⟨S128, .i32⟩
  | 56 => ⟨S128, .i32⟩
  | 57 => ⟨S128, .i32⟩
  | 58 => ⟨S_, .i32⟩
  | 59 => ⟨S128, .i32⟩
  | 60 => ⟨S128, .i1⟩
  | 61 => ⟨S_, .i32⟩
  | 62 => ⟨S128, .i32⟩
  | 63 => ⟨S128, .i32⟩
  | 64 => ⟨S128, .i32⟩
  | 65 => ⟨S128x1, .i32⟩
  | 66 => ⟨S128, .f32⟩
  | 67 => ⟨S_, .i32⟩
  | 68 => ⟨S128, .i32⟩
  | 69 => ⟨S128, .i1⟩
  | 70 => ⟨S1x128, .i1⟩
  | 71 => ⟨S2048x1, .f32⟩
  | 72 => ⟨S2048x1, .f32⟩
  | 73 => ⟨S2048x128, .i1⟩
  | 74 => ⟨S2048x128, .f32⟩
  | 75 => ⟨S2048x128, .f32⟩
  | 76 => ⟨S2048x128, .f32⟩
  | 77 => ⟨S1x128, .f32⟩
  | 78 => ⟨S2048x128, .f32⟩
  | 79 => ⟨S2048x128, .f32⟩
  | 80 => ⟨S2048x128, .f32⟩
  | 81 => ⟨S2048x128, .f32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S128, .i32⟩
  | 89 => ⟨S128, .i32⟩
  | 90 => ⟨S_, .i32⟩
  | 91 => ⟨S128, .i32⟩
  | 92 => ⟨S128, .i1⟩
  | 93 => ⟨S_, .i32⟩
  | 94 => ⟨S128, .i32⟩
  | 95 => ⟨S128, .i1⟩
  | 96 => ⟨S_, .i32⟩
  | 97 => ⟨S_, .i1⟩
  | 98 => ⟨S128, .i1⟩
  | 99 => ⟨S128, .i1⟩
  | 100 => ⟨S128, .i1⟩
  | 101 => ⟨S128, .i32⟩
  | 102 => ⟨S128, .i32⟩
  | 103 => ⟨S128, .i32⟩
  | 104 => ⟨S_, .i32⟩
  | 105 => ⟨S128, .i32⟩
  | 106 => ⟨S128, .i1⟩
  | 107 => ⟨S1x128, .i1⟩
  | 108 => ⟨S2048x128, .f32⟩
  | 109 => ⟨S_, .f32⟩
  | 110 => ⟨S_, .f32⟩
  | 111 => ⟨S2048x128, .i1⟩
  | 112 => ⟨S2048x128, .f32⟩
  | 113 => ⟨S2048x128, .f32⟩
  | 114 => ⟨S_, .f32⟩
  | 115 => ⟨S_, .f32⟩
  | 116 => ⟨S2048x128, .i1⟩
  | 117 => ⟨S2048x128, .f32⟩
  | 118 => ⟨S2048x128, .f32⟩
  | 119 => ⟨S1x1024, .f32⟩
  | 120 => ⟨S65536x512, .bf16⟩
  | 121 => ⟨S65536x512, .bf16⟩
  | 122 => ⟨S65536x1024, .bf16⟩
  | 123 => ⟨S65536x1024, .bf16⟩
  | 124 => ⟨S65536x1024, .bf16⟩
  | 125 => ⟨S65536x1024, .bf16⟩
  | 126 => ⟨S65536x1024, .bf16⟩
  | 127 => ⟨S65536x1024, .bf16⟩
  | _ => ⟨S65536x1024, .f32⟩

abbrev hbmTy0_2 (i : Nat) : BufTy := match i % 128 with
  | 0 => ⟨S65536x1024, .bf16⟩
  | _ => ⟨S65536x1024, .f32⟩

abbrev hbmTy (i : Nat) : BufTy := match i / 128 with
  | 0 => hbmTy0_0 i
  | 1 => hbmTy0_1 i
  | 2 => hbmTy0_2 i
  | _ => ⟨S65536x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x8192, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_v14 : Ref sig .tc := ⟨.hbm, 42, rfl⟩
abbrev main_c_1 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v15 : Ref sig .tc := ⟨.hbm, 64, rfl⟩
abbrev main_c_2 : Ref sig .tc := ⟨.hbm, 65, rfl⟩
abbrev main_v16 : Ref sig .tc := ⟨.hbm, 66, rfl⟩
abbrev main_v17 : Ref sig .tc := ⟨.hbm, 67, rfl⟩
abbrev main_c_3 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_4 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_c_5 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v34 : Ref sig .tc := ⟨.hbm, 110, rfl⟩
abbrev main_c_6 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_cst_7 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_v39 : Ref sig .tc := ⟨.hbm, 120, rfl⟩
abbrev main_cst_8 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_c_9 : Ref sig .tc := ⟨.hbm, 134, rfl⟩
abbrev main_call6_v0 : Ref sig .tc := ⟨.hbm, 135, rfl⟩
abbrev main_call6_c : Ref sig .tc := ⟨.hbm, 136, rfl⟩
abbrev main_call6_v1 : Ref sig .tc := ⟨.hbm, 137, rfl⟩
abbrev main_call6_c_0 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_call6_c_1 : Ref sig .tc := ⟨.hbm, 142, rfl⟩
abbrev main_call6_v5 : Ref sig .tc := ⟨.hbm, 143, rfl⟩
abbrev main_call6_v6 : Ref sig .tc := ⟨.hbm, 144, rfl⟩
abbrev main_call6_c_2 : Ref sig .tc := ⟨.hbm, 145, rfl⟩
abbrev main_call6_v7 : Ref sig .tc := ⟨.hbm, 146, rfl⟩
abbrev main_call6_v8 : Ref sig .tc := ⟨.hbm, 147, rfl⟩
abbrev main_call6_c_3 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_v12 : Ref sig .tc := ⟨.hbm, 152, rfl⟩
abbrev main_call6_v13 : Ref sig .tc := ⟨.hbm, 153, rfl⟩
abbrev main_call6_v14 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_cst_10 : Ref sig .tc := ⟨.hbm, 158, rfl⟩
abbrev main_v52 : Ref sig .tc := ⟨.hbm, 159, rfl⟩
abbrev main_v53 : Ref sig .tc := ⟨.hbm, 160, rfl⟩
abbrev main_cst_11 : Ref sig .tc := ⟨.hbm, 161, rfl⟩
abbrev main_v54 : Ref sig .tc := ⟨.hbm, 162, rfl⟩
abbrev main_v55 : Ref sig .tc := ⟨.hbm, 163, rfl⟩
abbrev main_c_12 : Ref sig .tc := ⟨.hbm, 164, rfl⟩
abbrev main_call7_v0 : Ref sig .tc := ⟨.hbm, 165, rfl⟩
abbrev main_call7_c : Ref sig .tc := ⟨.hbm, 166, rfl⟩
abbrev main_call7_v1 : Ref sig .tc := ⟨.hbm, 167, rfl⟩
abbrev main_call7_c_0 : Ref sig .tc := ⟨.hbm, 168, rfl⟩
abbrev main_call7_v2 : Ref sig .tc := ⟨.hbm, 169, rfl⟩
abbrev main_call7_v3 : Ref sig .tc := ⟨.hbm, 170, rfl⟩
abbrev main_call7_v4 : Ref sig .tc := ⟨.hbm, 171, rfl⟩
abbrev main_call7_c_1 : Ref sig .tc := ⟨.hbm, 172, rfl⟩
abbrev main_call7_v5 : Ref sig .tc := ⟨.hbm, 173, rfl⟩
abbrev main_call7_v6 : Ref sig .tc := ⟨.hbm, 174, rfl⟩
abbrev main_call7_c_2 : Ref sig .tc := ⟨.hbm, 175, rfl⟩
abbrev main_call7_v7 : Ref sig .tc := ⟨.hbm, 176, rfl⟩
abbrev main_call7_v8 : Ref sig .tc := ⟨.hbm, 177, rfl⟩
abbrev main_call7_c_3 : Ref sig .tc := ⟨.hbm, 178, rfl⟩
abbrev main_call7_v9 : Ref sig .tc := ⟨.hbm, 179, rfl⟩
abbrev main_call7_v10 : Ref sig .tc := ⟨.hbm, 180, rfl⟩
abbrev main_call7_v11 : Ref sig .tc := ⟨.hbm, 181, rfl⟩
abbrev main_call7_v12 : Ref sig .tc := ⟨.hbm, 182, rfl⟩
abbrev main_call7_v13 : Ref sig .tc := ⟨.hbm, 183, rfl⟩
abbrev main_call7_v14 : Ref sig .tc := ⟨.hbm, 184, rfl⟩
abbrev main_v56 : Ref sig .tc := ⟨.hbm, 185, rfl⟩
abbrev main_c_13 : Ref sig .tc := ⟨.hbm, 186, rfl⟩
abbrev main_v57 : Ref sig .tc := ⟨.hbm, 187, rfl⟩
abbrev main_v58 : Ref sig .tc := ⟨.hbm, 188, rfl⟩
abbrev main_c_14 : Ref sig .tc := ⟨.hbm, 189, rfl⟩
abbrev main_v59 : Ref sig .tc := ⟨.hbm, 190, rfl⟩
abbrev main_v60 : Ref sig .tc := ⟨.hbm, 191, rfl⟩
abbrev main_v61 : Ref sig .tc := ⟨.hbm, 192, rfl⟩
abbrev main_v62 : Ref sig .tc := ⟨.hbm, 193, rfl⟩
abbrev main_v63 : Ref sig .tc := ⟨.hbm, 194, rfl⟩
abbrev main_c_15 : Ref sig .tc := ⟨.hbm, 195, rfl⟩
abbrev main_v64 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev main_call8_v0 : Ref sig .tc := ⟨.hbm, 201, rfl⟩
abbrev main_call8_v1 : Ref sig .tc := ⟨.hbm, 202, rfl⟩
abbrev main_call8_v2 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_c_16 : Ref sig .tc := ⟨.hbm, 210, rfl⟩
abbrev main_call9_v0 : Ref sig .tc := ⟨.hbm, 211, rfl⟩
abbrev main_call9_c : Ref sig .tc := ⟨.hbm, 212, rfl⟩
abbrev main_call9_v1 : Ref sig .tc := ⟨.hbm, 213, rfl⟩
abbrev main_call9_c_0 : Ref sig .tc := ⟨.hbm, 214, rfl⟩
abbrev main_call9_v2 : Ref sig .tc := ⟨.hbm, 215, rfl⟩
abbrev main_call9_v3 : Ref sig .tc := ⟨.hbm, 216, rfl⟩
abbrev main_call9_v4 : Ref sig .tc := ⟨.hbm, 217, rfl⟩
abbrev main_call9_c_1 : Ref sig .tc := ⟨.hbm, 218, rfl⟩
abbrev main_call9_v5 : Ref sig .tc := ⟨.hbm, 219, rfl⟩
abbrev main_call9_v6 : Ref sig .tc := ⟨.hbm, 220, rfl⟩
abbrev main_call9_c_2 : Ref sig .tc := ⟨.hbm, 221, rfl⟩
abbrev main_call9_v7 : Ref sig .tc := ⟨.hbm, 222, rfl⟩
abbrev main_call9_v8 : Ref sig .tc := ⟨.hbm, 223, rfl⟩
abbrev main_call9_c_3 : Ref sig .tc := ⟨.hbm, 224, rfl⟩
abbrev main_call9_v9 : Ref sig .tc := ⟨.hbm, 225, rfl⟩
abbrev main_call9_v10 : Ref sig .tc := ⟨.hbm, 226, rfl⟩
abbrev main_call9_v11 : Ref sig .tc := ⟨.hbm, 227, rfl⟩
abbrev main_call9_v12 : Ref sig .tc := ⟨.hbm, 228, rfl⟩
abbrev main_call9_v13 : Ref sig .tc := ⟨.hbm, 229, rfl⟩
abbrev main_call9_v14 : Ref sig .tc := ⟨.hbm, 230, rfl⟩
abbrev main_v75 : Ref sig .tc := ⟨.hbm, 231, rfl⟩
abbrev main_c_17 : Ref sig .tc := ⟨.hbm, 232, rfl⟩
abbrev main_v76 : Ref sig .tc := ⟨.hbm, 233, rfl⟩
abbrev main_v77 : Ref sig .tc := ⟨.hbm, 234, rfl⟩
abbrev main_v78 : Ref sig .tc := ⟨.hbm, 235, rfl⟩
abbrev main_v79 : Ref sig .tc := ⟨.hbm, 236, rfl⟩
abbrev main_cst_18 : Ref sig .tc := ⟨.hbm, 237, rfl⟩
abbrev main_call10_v0 : Ref sig .tc := ⟨.hbm, 238, rfl⟩
abbrev main_call10_v1 : Ref sig .tc := ⟨.hbm, 239, rfl⟩
abbrev main_call10_v2 : Ref sig .tc := ⟨.hbm, 240, rfl⟩
abbrev main_v80 : Ref sig .tc := ⟨.hbm, 241, rfl⟩
abbrev main_cst_19 : Ref sig .tc := ⟨.hbm, 242, rfl⟩
abbrev main_call11_v0 : Ref sig .tc := ⟨.hbm, 243, rfl⟩
abbrev main_call11_v1 : Ref sig .tc := ⟨.hbm, 244, rfl⟩
abbrev main_call11_v2 : Ref sig .tc := ⟨.hbm, 245, rfl⟩
abbrev main_v81 : Ref sig .tc := ⟨.hbm, 246, rfl⟩
abbrev main_v82 : Ref sig .tc := ⟨.hbm, 247, rfl⟩
abbrev main_v83_0 : Ref sig .tc := ⟨.hbm, 248, rfl⟩
abbrev main_v83_1 : Ref sig .tc := ⟨.hbm, 249, rfl⟩
abbrev main_v83_2 : Ref sig .tc := ⟨.hbm, 250, rfl⟩
abbrev main_v83_3 : Ref sig .tc := ⟨.hbm, 251, rfl⟩
abbrev main_v83_4 : Ref sig .tc := ⟨.hbm, 252, rfl⟩
abbrev main_v83_5 : Ref sig .tc := ⟨.hbm, 253, rfl⟩
abbrev main_v83_6 : Ref sig .tc := ⟨.hbm, 254, rfl⟩
abbrev main_v83_7 : Ref sig .tc := ⟨.hbm, 255, rfl⟩
abbrev main_v83_8 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel2Ideal.lean ====
variable {F : FTy → Type} [FloatOps F] [Named F]
def κ : String → Option EReal := fun
  | "inv_sqrt_dk" => some (((Real.sqrt 128)⁻¹ : ℝ) : EReal)
  | "log2e_over_sqrt_d" => some ((((Real.sqrt 64) * (Real.log 2))⁻¹ : ℝ) : EReal)
  | _ => none
-- ==== Reference2Ideal.lean ====
abbrev S65536x1024 : Shape := ⟨2, ![65536, 1024]⟩
abbrev S1024 : Shape := ⟨1, ![1024]⟩
abbrev S32x1x1024 : Shape := ⟨3, ![32, 1, 1024]⟩
abbrev S1024x8192 : Shape := ⟨2, ![1024, 8192]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S2048x2 : Shape := ⟨2, ![2048, 2]⟩
abbrev S32x2048x1024 : Shape := ⟨3, ![32, 2048, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x8192 : Shape := ⟨3, ![32, 2048, 8192]⟩
abbrev S65536x8192 : Shape := ⟨2, ![65536, 8192]⟩
abbrev S65536x2048 : Shape := ⟨2, ![65536, 2048]⟩
abbrev S32x2048x8x2x64 : Shape := ⟨5, ![32, 2048, 8, 2, 64]⟩
abbrev S2048x2x1 : Shape := ⟨3, ![2048, 2, 1]⟩
abbrev S1x1x32 : Shape := ⟨3, ![1, 1, 32]⟩
abbrev S2048x2x32 : Shape := ⟨3, ![2048, 2, 32]⟩
abbrev S2048x1x2x32 : Shape := ⟨4, ![2048, 1, 2, 32]⟩
abbrev S32x2048x8x2x32 : Shape := ⟨5, ![32, 2048, 8, 2, 32]⟩
abbrev S1x2048x1x2x32 : Shape := ⟨5, ![1, 2048, 1, 2, 32]⟩
abbrev S32x2048x32x2x32 : Shape := ⟨5, ![32, 2048, 32, 2, 32]⟩
abbrev S16 : Shape := ⟨1, ![16]⟩
abbrev S1x1x16 : Shape := ⟨3, ![1, 1, 16]⟩
abbrev S2048x2x16 : Shape := ⟨3, ![2048, 2, 16]⟩
abbrev S2048x1x2x16 : Shape := ⟨4, ![2048, 1, 2, 16]⟩
abbrev S32x2048x32x2x16 : Shape := ⟨5, ![32, 2048, 32, 2, 16]⟩
abbrev S1x2048x1x2x16 : Shape := ⟨5, ![1, 2048, 1, 2, 16]⟩
abbrev S32x2048x4x2x64 : Shape := ⟨5, ![32, 2048, 4, 2, 64]⟩
abbrev S32x2048x16x2x32 : Shape := ⟨5, ![32, 2048, 16, 2, 32]⟩
abbrev S65536x512 : Shape := ⟨2, ![65536, 512]⟩

abbrev nBuf : Space → Nat
  | .hbm => 165
  | .vmem => 0
  | .smem => 0
  | _ => 0

abbrev hbmTy0_0 (i : Nat) : BufTy := match i % 128 with
  | 0 => ⟨S65536x1024, .f32⟩
  | 1 => ⟨S1024, .f32⟩
  | 2 => ⟨S32x1x1024, .f32⟩
  | 3 => ⟨S32x1x1024, .f32⟩
  | 4 => ⟨S1024x8192, .bf16⟩
  | 5 => ⟨S32, .f32⟩
  | 6 => ⟨S32x64, .f32⟩
  | 7 => ⟨S2048, .f32⟩
  | 8 => ⟨S64, .f32⟩
  | 9 => ⟨S1x64, .f32⟩
  | 10 => ⟨S32x64, .f32⟩
  | 11 => ⟨S2048, .f32⟩
  | 12 => ⟨S2048x1, .f32⟩
  | 13 => ⟨S2048x1, .f32⟩
  | 14 => ⟨S2048x2, .f32⟩
  | 15 => ⟨S32x2048x1024, .f32⟩
  | 16 => ⟨S32x2048x1024, .f32⟩
  | 17 => ⟨S_, .f32⟩
  | 18 => ⟨S32x2048, .f32⟩
  | 19 => ⟨S32x2048x1, .f32⟩
  | 20 => ⟨S_, .f32⟩
  | 21 => ⟨S32x2048x1, .f32⟩
  | 22 => ⟨S32x2048x1, .f32⟩
  | 23 => ⟨S_, .f32⟩
  | 24 => ⟨S32x2048x1, .f32⟩
  | 25 => ⟨S32x2048x1, .f32⟩
  | 26 => ⟨S32x2048x1, .f32⟩
  | 27 => ⟨S32x2048x1024, .f32⟩
  | 28 => ⟨S32x2048x1024, .f32⟩
  | 29 => ⟨S1x1x1024, .f32⟩
  | 30 => ⟨S32x2048x1024, .f32⟩
  | 31 => ⟨S32x2048x1024, .f32⟩
  | 32 => ⟨S_, .f32⟩
  | 33 => ⟨S32x1x1024, .f32⟩
  | 34 => ⟨S32x1x1024, .f32⟩
  | 35 => ⟨S32x2048x1024, .f32⟩
  | 36 => ⟨S32x2048x1024, .f32⟩
  | 37 => ⟨S32x2048x1024, .f32⟩
  | 38 => ⟨S32x2048x1024, .f32⟩
  | 39 => ⟨S1024x8192, .f32⟩
  | 40 => ⟨S32x2048x8192, .f32⟩
  | 41 => ⟨S65536x8192, .f32⟩
  | 42 => ⟨S65536x1024, .f32⟩
  | 43 => ⟨S65536x1024, .f32⟩
  | 44 => ⟨S65536x1024, .f32⟩
  | 45 => ⟨S65536x2048, .f32⟩
  | 46 => ⟨S65536x1024, .f32⟩
  | 47 => ⟨S65536x2048, .f32⟩
  | 48 => ⟨S65536x2048, .f32⟩
  | 49 => ⟨S65536x2048, .f32⟩
  | 50 => ⟨S_, .f32⟩
  | 51 => ⟨S65536x2048, .f32⟩
  | 52 => ⟨S65536x2048, .f32⟩
  | 53 => ⟨S_, .f32⟩
  | 54 => ⟨S65536x2048, .f32⟩
  | 55 => ⟨S65536x2048, .f32⟩
  | 56 => ⟨S32x2048x8x2x64, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S2048x2x1, .f32⟩
  | 66 => ⟨S1x1x32, .f32⟩
  | 67 => ⟨S2048x2x32, .f32⟩
  | 68 => ⟨S2048x2x32, .f32⟩
  | 69 => ⟨S2048x2x32, .f32⟩
  | 70 => ⟨S2048x2x32, .f32⟩
  | 71 => ⟨S2048x2x32, .f32⟩
  | 72 => ⟨S2048x1x2x32, .f32⟩
  | 73 => ⟨S2048x1x2x32, .f32⟩
  | 74 => ⟨S32x2048x8x2x32, .f32⟩
  | 75 => ⟨S32x2048x8x2x32, .f32⟩
  | 76 => ⟨S1x2048x1x2x32, .f32⟩
  | 77 => ⟨S32x2048x8x2x32, .f32⟩
  | 78 => ⟨S32x2048x8x2x32, .f32⟩
  | 79 => ⟨S1x2048x1x2x32, .f32⟩
  | 80 => ⟨S32x2048x8x2x32, .f32⟩
  | 81 => ⟨S32x2048x8x2x32, .f32⟩
  | 82 => ⟨S32x2048x8x2x32, .f32⟩
  | 83 => ⟨S1x2048x1x2x32, .f32⟩
  | 84 => ⟨S32x2048x8x2x32, .f32⟩
  | 85 => ⟨S32x2048x8x2x32, .f32⟩
  | 86 => ⟨S1x2048x1x2x32, .f32⟩
  | 87 => ⟨S32x2048x8x2x32, .f32⟩
  | 88 => ⟨S32x2048x8x2x32, .f32⟩
  | 89 => ⟨S32x2048x8x2x32, .f32⟩
  | 90 => ⟨S32x2048x8x2x64, .f32⟩
  | 91 => ⟨S32x2048x32x2x32, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S2048x2x1, .f32⟩
  | 101 => ⟨S1x1x16, .f32⟩
  | 102 => ⟨S2048x2x16, .f32⟩
  | 103 => ⟨S2048x2x16, .f32⟩
  | 104 => ⟨S2048x2x16, .f32⟩
  | 105 => ⟨S2048x2x16, .f32⟩
  | 106 => ⟨S2048x2x16, .f32⟩
  | 107 => ⟨S2048x1x2x16, .f32⟩
  | 108 => ⟨S2048x1x2x16, .f32⟩
  | 109 => ⟨S32x2048x32x2x16, .f32⟩
  | 110 => ⟨S32x2048x32x2x16, .f32⟩
  | 111 => ⟨S1x2048x1x2x16, .f32⟩
  | 112 => ⟨S32x2048x32x2x16, .f32⟩
  | 113 => ⟨S32x2048x32x2x16, .f32⟩
  | 114 => ⟨S1x2048x1x2x16, .f32⟩
  | 115 => ⟨S32x2048x32x2x16, .f32⟩
  | 116 => ⟨S32x2048x32x2x16, .f32⟩
  | 117 => ⟨S32x2048x32x2x16, .f32⟩
  | 118 => ⟨S1x2048x1x2x16, .f32⟩
  | 119 => ⟨S32x2048x32x2x16, .f32⟩
  | 120 => ⟨S32x2048x32x2x16, .f32⟩
  | 121 => ⟨S1x2048x1x2x16, .f32⟩
  | 122 => ⟨S32x2048x32x2x16, .f32⟩
  | 123 => ⟨S32x2048x32x2x16, .f32⟩
  | 124 => ⟨S32x2048x32x2x16, .f32⟩
  | 125 => ⟨S32x2048x32x2x32, .f32⟩
  | 126 => ⟨S32x2048x4x2x64, .f32⟩
  | 127 => ⟨S_, .f32⟩
  | _ => ⟨S65536x1024, .f32⟩

abbrev hbmTy0_1 (i : Nat) : BufTy := match i % 128 with
  | 0 => ⟨S_, .f32⟩
  | 1 => ⟨S32x2048x4x2x64, .f32⟩
  | 2 => ⟨S32x2048x4x2x64, .f32⟩
  | 3 => ⟨S32x2048x4x2x64, .f32⟩
  | 4 => ⟨S32x2048x16x2x32, .f32⟩
  | 5 => ⟨S_, .f32⟩
  | 6 => ⟨S32x2048x16x2x32, .f32⟩
  | 7 => ⟨S32x2048x16x2x32, .f32⟩
  | 8 => ⟨S_, .f32⟩
  | 9 => ⟨S_, .f32⟩
  | 10 => ⟨S32x2048x16x2x32, .f32⟩
  | 11 => ⟨S32x2048x16x2x32, .f32⟩
  | 12 => ⟨S32x2048x16x2x32, .f32⟩
  | 13 => ⟨S65536x1024, .f32⟩
  | 14 => ⟨S65536x1024, .f32⟩
  | 15 => ⟨S_, .f32⟩
  | 16 => ⟨S65536x1024, .f32⟩
  | 17 => ⟨S65536x1024, .f32⟩
  | 18 => ⟨S_, .f32⟩
  | 19 => ⟨S65536x1024, .f32⟩
  | 20 => ⟨S65536x1024, .f32⟩
  | 21 => ⟨S65536x1024, .f32⟩
  | 22 => ⟨S65536x1024, .f32⟩
  | 23 => ⟨S65536x1024, .f32⟩
  | 24 => ⟨S65536x512, .f32⟩
  | 25 => ⟨S65536x512, .bf16⟩
  | 26 => ⟨S65536x512, .f32⟩
  | 27 => ⟨S65536x512, .bf16⟩
  | 28 => ⟨S65536x1024, .bf16⟩
  | 29 => ⟨S65536x1024, .bf16⟩
  | 30 => ⟨S65536x1024, .f32⟩
  | 31 => ⟨S65536x1024, .bf16⟩
  | 32 => ⟨S65536x1024, .f32⟩
  | 33 => ⟨S65536x1024, .bf16⟩
  | 34 => ⟨S65536x1024, .bf16⟩
  | 35 => ⟨S65536x1024, .bf16⟩
  | 36 => ⟨S65536x1024, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_7 : Ref sig .tc := ⟨.hbm, 94, rfl⟩
abbrev main_v81 : Ref sig .tc := ⟨.hbm, 95, rfl⟩
abbrev main_v82 : Ref sig .tc := ⟨.hbm, 96, rfl⟩
abbrev main_cst_8 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_9 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_cst_10 : Ref sig .tc := ⟨.hbm, 133, rfl⟩
abbrev main_v117 : Ref sig .tc := ⟨.hbm, 134, rfl⟩
abbrev main_v118 : Ref sig .tc := ⟨.hbm, 135, rfl⟩
abbrev main_cst_11 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_call0_v0 : Ref sig .tc := ⟨.hbm, 141, rfl⟩
abbrev main_call0_v1 : Ref sig .tc := ⟨.hbm, 142, rfl⟩
abbrev main_call0_cst : Ref sig .tc := ⟨.hbm, 143, rfl⟩
abbrev main_call0_v2 : Ref sig .tc := ⟨.hbm, 144, rfl⟩
abbrev main_call0_v3 : Ref sig .tc := ⟨.hbm, 145, rfl⟩
abbrev main_call0_cst_0 : Ref sig .tc := ⟨.hbm, 146, rfl⟩
abbrev main_call0_v4 : Ref sig .tc := ⟨.hbm, 147, rfl⟩
abbrev main_call0_v5 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩

abbrev nD : Nat := 1
abbrev τ : Topo := Topo.v7x

variable {F : FTy → Type} [FloatOps F]
-- ==== Proof.Attention.Tile.lean ====
/- The attention kernel's body, one block of 128 query rows at a time. The body is printed sixteen times over, once per
   block of rows, cut into payloads at different places; `tile` is the one computation they all are. That the output block
   is the sixteen tiles side by side is `out_apply` (Out.lean). -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Attention

open Idealize.ShloMosaic Idealize.ShloMosaic.TcCoe Idealize.SL.Sem
open Cert.KernelIdeal Cert.KernelIdeal.Gen

/-- A vector of extended reals. -/
abbrev V (s : Shape) (φ : FTy) := FVec Ideal s φ

/-- The lane number, and the query row with the lanes outside one branch's half set to zero. -/
def lane : IVec S128x128 32 := iota .tc S128x128 32 [1] iota_S128x128_d1_w32
def zeros : V S128x128 .bf16 := broadcast S128x128 (Scalar.ofBits (F := Ideal) .bf16 0x0000#16)
def half₁ (q : V S128x128 .bf16) : V S128x128 .bf16 := select (cmpi .slt lane (broadcast S128x128 64#32)) q zeros
def half₂ (q : V S128x128 .bf16) : V S128x128 .bf16 := select (cmpi .sge lane (broadcast S128x128 64#32)) q zeros

/-- Scores of 128 rows against the latent keys and against the context keys. -/
def scoreL (q : V S128x128 .bf16) (k : V S2048x128 .bf16) : V S128x2048 .f32 :=
  matmul dot_S128x128_S2048x128_S128x2048_1_1_0_0_n_n none q k (constant S128x2048 .f32 0x00000000#32)
def scoreC (q : V S128x128 .bf16) (k : V S256x128 .bf16) : V S128x256 .f32 :=
  matmul dot_S128x128_S256x128_S128x256_1_1_0_0_n_n none q k (constant S128x256 .f32 0x00000000#32)

/-- The largest score of each row. -/
def top (sl : V S128x2048 .f32) (sc : V S128x256 .f32) : V S128x1 .f32 :=
  maximumf
    (shapeCast S128x1 (multiReduction .maximumf [1] S128 sl 0xFF800000#32 reduces_S128x2048_S128 (.inl rfl) rfl) shapeCasts_S128_S128x1)
    (shapeCast S128x1 (multiReduction .maximumf [1] S128 sc 0xFF800000#32 reduces_S128x256_S128 (.inl rfl) rfl) shapeCasts_S128_S128x1)

/-- The weights: two to the score less the row's largest. -/
def weightL (sl : V S128x2048 .f32) (m : V S128x1 .f32) : V S128x2048 .bf16 :=
  truncf .bf16 (exp2 (subf sl (broadcastTo S128x2048 m broadcasts_S128x1_S128x2048))) bitsLt_bf16_f32
def weightC (sc : V S128x256 .f32) (m : V S128x1 .f32) : V S128x256 .bf16 :=
  truncf .bf16 (exp2 (subf sc (broadcastTo S128x256 m broadcasts_S128x1_S128x256))) bitsLt_bf16_f32

/-- The weighted values beside the weights' sum in every lane (the values arrive with a block of ones at their right). -/
def weighted (wl : V S128x2048 .bf16) (wc : V S128x256 .bf16) (vl : V S2048x256 .bf16) (vc : V S256x256 .bf16) : V S128x256 .f32 :=
  addf (matmul dot_S128x2048_S2048x256_S128x256_1_0_0_1_n_n none wl vl (constant S128x256 .f32 0x00000000#32))
    (matmul dot_S128x256_S256x256_S128x256_1_0_0_1_n_n none wc vc (constant S128x256 .f32 0x00000000#32))

def quotient (o : V S128x256 .f32) : V S128x128 .f32 :=
  divf (extractStridedSlice S128x128 ![0, 0] o slices_S128x256_o0_0_S128x128)
    (extractStridedSlice S128x128 ![0, 128] o slices_S128x256_o0_128_S128x128)

/-- One softmax branch over 128 masked query rows. -/
def branch (q : V S128x128 .bf16) (kl : V S2048x128 .bf16) (kc : V S256x128 .bf16) (vl : V S2048x256 .bf16) (vc : V S256x256 .bf16) : V S128x128 .f32 :=
  quotient (weighted (weightL (scoreL q kl) (top (scoreL q kl) (scoreC q kc)))
    (weightC (scoreC q kc) (top (scoreL q kl) (scoreC q kc))) vl vc)

/-- The two branches' difference. -/
def diff (q : V S128x128 .bf16) (kl : V S2048x128 .bf16) (kc : V S256x128 .bf16) (vl : V S2048x256 .bf16) (vc : V S256x256 .bf16) (lam : V S1x1 .f32) : V S128x128 .f32 :=
  subf (branch (half₁ q) kl kc vl vc)
    (mulf (broadcastTo S128x128 lam broadcasts_S1x1_S128x128) (branch (half₂ q) kl kc vl vc))

/-- The norm over a head's lanes, the factor 0.8 and the gain. -/
def norm (o : V S128x128 .f32) (g : V S1x128 .f32) : V S128x128 .bf16 :=
  truncf .bf16 (mulf (mulf (mulf o (broadcastTo S128x128 (rsqrt (addf
      (divf (shapeCast S128x1 (multiReduction .add [1] S128 (mulf o o) 0x00000000#32 reduces_S128x128_S128 (.inl rfl) rfl) shapeCasts_S128_S128x1)
        (broadcast S128x1 (Scalar.ofBits .f32 0x43000000#32)))
      (broadcast S128x1 (Scalar.ofBits .f32 0x358637BD#32)))) broadcasts_S128x1_S128x128))
    (broadcast S128x128 (Scalar.ofBits .f32 0x3F4CCCCD#32)))
    (broadcastTo S128x128 (shapeCast S1x128 g shapeCasts_S1x128_S1x128) broadcasts_S1x128_S128x128)) bitsLt_bf16_f32

/-- What one block of 128 query rows computes. -/
def tile (q : V S128x128 .bf16) (kl : V S2048x128 .bf16) (kc : V S256x128 .bf16) (vl : V S2048x128 .bf16) (vc : V S256x128 .bf16) (lp : V S4x64 .f32) (g : V S1x128 .f32) : V S128x128 .bf16 :=
  norm (diff q kl kc (k0_pay2 vl) (k0_pay3 vc) (k0_pay4 lp)) g

end Cert.Attention

end
-- ==== Proof.Attention.Row.lean ====
/- One tile of the attention kernel read at an index: row `r`, lane `j`, from that row of the queries. -/
module

public import proofs.«01_k».proof.Proof.Attention.Tile

@[expose] public section

set_option maxRecDepth 16384

noncomputable section

namespace Cert.Attention

open Idealize.ShloMosaic Idealize.ShloMosaic.TcCoe Idealize.SL.Sem
open Cert.KernelIdeal Cert.KernelIdeal.Gen

/-- The largest of a family of extended reals, from minus infinity. -/
def largest {n : ℕ} (f : Fin n → EReal) : EReal := Finset.univ.fold max (Ideal.ofBits .f32 0xFF800000#32) f

/-- Two to an extended real, as the kernel takes it. -/
abbrev pow₂ (x : EReal) : EReal := FloatOps.exp2 (F := Ideal) (φ := .f32) x

section Rows

variable (q : Fin 128 → EReal) (kl : V S2048x128 .bf16) (kc : V S256x128 .bf16) (vl : V S2048x128 .bf16) (vc : V S256x128 .bf16)

/-- The scores of a row `q` of queries, and the largest of them. -/
def sL (i : Fin 2048) : EReal := ∑ d : Fin 128, q d * kl (ix2 i d)
def sC (i : Fin 256) : EReal := ∑ d : Fin 128, q d * kc (ix2 i d)
def sTop : EReal := max (largest (sL q kl)) (largest (sC q kc))

/-- One softmax branch of a row: the weighted values over the weights. -/
def rowBranch (j : Fin 128) : EReal :=
  Ideal.div
    ((∑ i, pow₂ (sL q kl i - sTop q kl kc) * vl (ix2 i j)) + ∑ i, pow₂ (sC q kc i - sTop q kl kc) * vc (ix2 i j))
    ((∑ i, pow₂ (sL q kl i - sTop q kl kc)) + ∑ i, pow₂ (sC q kc i - sTop q kl kc))

/-- Lambda from its four vectors. -/
def lamOf (lp : V S4x64 .f32) : EReal :=
  Ideal.exp (∑ d : Fin 64, lp (ix2 0 d) * lp (ix2 1 d)) - Ideal.exp (∑ d : Fin 64, lp (ix2 2 d) * lp (ix2 3 d))
    + Ideal.ofBits .f32 0x3E4CCCCD#32

/-- The first half of the lanes, and the second. -/
def low (d : Fin 128) : EReal := if (d : ℕ) < 64 then q d else 0
def high (d : Fin 128) : EReal := if 64 ≤ (d : ℕ) then q d else 0

/-- The two branches' difference in a row. -/
def rowDiff (lam : EReal) (j : Fin 128) : EReal :=
  rowBranch (low q) kl kc vl vc j - lam * rowBranch (high q) kl kc vl vc j

end Rows

/-- The norm of a row `o` at a lane, times the factor and the gain. -/
def rowNorm (o : Fin 128 → EReal) (g : EReal) (j : Fin 128) : EReal :=
  o j * Ideal.rsqrt (Ideal.div (∑ x, o x * o x) (Ideal.ofBits .f32 0x43000000#32) + Ideal.ofBits .f32 0x358637BD#32)
    * Ideal.ofBits .f32 0x3F4CCCCD#32 * g

theorem scoreL_apply (q : V S128x128 .bf16) (k : V S2048x128 .bf16) (r : Fin 128) (i : Fin 2048) :
    scoreL q k (ix2 r i) = sL (fun d => q (ix2 r d)) k i := by
  pointwise [scoreL, sL]

theorem scoreC_apply (q : V S128x128 .bf16) (k : V S256x128 .bf16) (r : Fin 128) (i : Fin 256) :
    scoreC q k (ix2 r i) = sC (fun d => q (ix2 r d)) k i := by
  pointwise [scoreC, sC]

theorem lane_lt (d : Fin 128) : IntOp.cmpi .slt (BitVec.ofNat 32 d) 64#32 = if (d : ℕ) < 64 then 1 else 0 := by
  revert d; decide +kernel

theorem lane_ge (d : Fin 128) : IntOp.cmpi .sge (BitVec.ofNat 32 d) 64#32 = if 64 ≤ (d : ℕ) then 1 else 0 := by
  revert d; decide +kernel

theorem half₁_apply (q : V S128x128 .bf16) (r d : Fin 128) : half₁ q (ix2 r d) = low (fun d => q (ix2 r d)) d := by
  pointwise [half₁, lane, zeros, low]
  rw [lane_lt]
  split <;> simp [Scalar.select]

theorem half₂_apply (q : V S128x128 .bf16) (r d : Fin 128) : half₂ q (ix2 r d) = high (fun d => q (ix2 r d)) d := by
  pointwise [half₂, lane, zeros, high]
  rw [lane_ge]
  split <;> simp [Scalar.select]

theorem top_apply (sl : V S128x2048 .f32) (sc : V S128x256 .f32) (r : Fin 128) :
    top sl sc (ix2 r 0) = max (largest fun k => sl (ix2 r k)) (largest fun k => sc (ix2 r k)) := by
  pointwise [top, largest]

theorem weightL_apply (s : V S128x2048 .f32) (m : V S128x1 .f32) (r : Fin 128) (i : Fin 2048) :
    weightL s m (ix2 r i) = pow₂ (s (ix2 r i) - m (ix2 r 0)) := by
  pointwise [weightL]

theorem weightC_apply (s : V S128x256 .f32) (m : V S128x1 .f32) (r : Fin 128) (i : Fin 256) :
    weightC s m (ix2 r i) = pow₂ (s (ix2 r i) - m (ix2 r 0)) := by
  pointwise [weightC]

theorem quotient_apply (wl : V S128x2048 .bf16) (wc : V S128x256 .bf16) (vl : V S2048x128 .bf16) (vc : V S256x128 .bf16) (r j : Fin 128) :
    quotient (weighted wl wc (k0_pay2 vl) (k0_pay3 vc)) (ix2 r j)
      = Ideal.div ((∑ i, wl (ix2 r i) * vl (ix2 i j)) + ∑ i, wc (ix2 r i) * vc (ix2 i j)) ((∑ i, wl (ix2 r i)) + ∑ i, wc (ix2 r i)) := by
  pointwise [quotient, weighted, k0_pay2, k0_pay3]

theorem branch_apply (q : V S128x128 .bf16) (kl : V S2048x128 .bf16) (kc : V S256x128 .bf16) (vl : V S2048x128 .bf16) (vc : V S256x128 .bf16) (r j : Fin 128) :
    branch q kl kc (k0_pay2 vl) (k0_pay3 vc) (ix2 r j) = rowBranch (fun d => q (ix2 r d)) kl kc vl vc j := by
  unfold branch rowBranch sTop
  rw [quotient_apply]
  simp only [weightL_apply, weightC_apply, top_apply, scoreL_apply, scoreC_apply]

theorem diff_apply (q : V S128x128 .bf16) (kl : V S2048x128 .bf16) (kc : V S256x128 .bf16) (vl : V S2048x128 .bf16) (vc : V S256x128 .bf16) (lam : V S1x1 .f32) (r j : Fin 128) :
    diff q kl kc (k0_pay2 vl) (k0_pay3 vc) lam (ix2 r j) = rowDiff (fun d => q (ix2 r d)) kl kc vl vc (lam (ix2 0 0)) j := by
  pointwise [diff]
  unfold rowDiff
  rw [branch_apply, branch_apply]
  simp only [half₁_apply, half₂_apply]

theorem lam_apply (x : V S4x64 .f32) : k0_pay4 (F := Ideal) x (ix2 0 0) = lamOf x := by
  pointwise [k0_pay4, lamOf]

theorem norm_apply (o : V S128x128 .f32) (g : V S1x128 .f32) (r j : Fin 128) :
    norm o g (ix2 r j) = rowNorm (fun x => o (ix2 r x)) (g (ix2 0 j)) j := by
  pointwise [norm, rowNorm]

/-- A tile at row `r`, lane `j`. -/
theorem tile_apply (q : V S128x128 .bf16) (kl : V S2048x128 .bf16) (kc : V S256x128 .bf16) (vl : V S2048x128 .bf16) (vc : V S256x128 .bf16) (lp : V S4x64 .f32) (g : V S1x128 .f32) (r j : Fin 128) :
    tile q kl kc vl vc lp g (ix2 r j) = rowNorm (rowDiff (fun d => q (ix2 r d)) kl kc vl vc (lamOf lp)) (g (ix2 0 j)) j := by
  unfold tile
  rw [norm_apply]
  congr 1
  funext x
  rw [diff_apply, lam_apply]

end Cert.Attention

end
-- ==== Proof.Attention.Out.lean ====
/- The attention kernel's output block: each of its rows is the same function of that row of queries and of the other
   blocks, whichever of the sixteen printed tiles it lies in. -/
module

public import proofs.«01_k».proof.Proof.Attention.Row

@[expose] public section

set_option maxRecDepth 16384

noncomputable section

namespace Cert.Attention

open Idealize.ShloMosaic Idealize.ShloMosaic.TcCoe Idealize.SL.Sem
open Cert.KernelIdeal Cert.KernelIdeal.Gen

variable (x0 x1 : V S2048x128 .bf16) (x2 : V S256x128 .bf16) (x3 : V S2048x128 .bf16) (x4 : V S256x128 .bf16) (x5 : V S4x64 .f32) (x6 : V S1x128 .f32)

/-- A whole row of the output block, from the blocks. -/
def outRow (i : Fin 2048) (j : Fin 128) : EReal :=
  rowNorm (rowDiff (fun d => x0 (ix2 i d)) x1 x2 x3 x4 (lamOf x5)) (x6 (ix2 0 j)) j

/-- The tile of 128 query rows from row `o` on. -/
theorem tile_ld (o : ℕ) (inb) (x : S128x128.Idx) (y : S2048x128.Idx) (h0 : (y 0 : ℕ) = o + x 0) (h1 : (y 1 : ℕ) = x 1) :
    (tile (View.ld (Val := Elt Ideal) (e' := .bf16) x0 (Rect.unit (s := S2048x128) ![o, 0] S128x128.size inb))
      (View.ld (Val := Elt Ideal) (e' := .bf16) x1 r0_0) (View.ld (Val := Elt Ideal) (e' := .bf16) x2 r0_1)
      (View.ld (Val := Elt Ideal) (e' := .bf16) x3 r0_0) (View.ld (Val := Elt Ideal) (e' := .bf16) x4 r0_1)
      (View.ld (Val := Elt Ideal) (e' := .f32) x5 r0_2) (View.ld (Val := Elt Ideal) (e' := .f32) x6 r0_4) x : EReal) = outRow x0 x1 x2 x3 x4 x5 x6 (y 0) (y 1) := by
  obtain ⟨r, j, rfl⟩ : ∃ (r j : Fin 128), x = ix2 r j := ⟨x 0, x 1, eq_ix2 x⟩
  obtain ⟨i, k, rfl⟩ : ∃ (i : Fin 2048) (k : Fin 128), y = ix2 i k := ⟨y 0, y 1, eq_ix2 y⟩
  obtain rfl : k = j := Fin.ext h1
  have e : (fun d => View.ld (Val := Elt Ideal) (e' := .bf16) x0 (Rect.unit (s := S2048x128) ![o, 0] S128x128.size inb) (ix2 r d))
      = fun d => x0 (ix2 i d) := funext fun d =>
    View.ld_unit_apply_of _ _ _ _ _ _ fun a => match a with
      | ⟨0, _⟩ => h0
      | ⟨1, _⟩ => (Nat.zero_add _).symm
  have z : (![0, 0] : Fin 2 → ℕ) = fun _ => 0 := by decide
  have e1 : View.ld (Val := Elt Ideal) (e' := .bf16) x1 r0_0 = x1 := View.ld_unit_zero z _ _
  have e2 : View.ld (Val := Elt Ideal) (e' := .bf16) x2 r0_1 = x2 := View.ld_unit_zero z _ _
  have e3 : View.ld (Val := Elt Ideal) (e' := .bf16) x3 r0_0 = x3 := View.ld_unit_zero z _ _
  have e4 : View.ld (Val := Elt Ideal) (e' := .bf16) x4 r0_1 = x4 := View.ld_unit_zero z _ _
  have e5 : View.ld (Val := Elt Ideal) (e' := .f32) x5 r0_2 = x5 := View.ld_unit_zero z _ _
  have e6 : View.ld (Val := Elt Ideal) (e' := .f32) x6 r0_4 = x6 := View.ld_unit_zero z _ _
  rw [tile_apply, e1, e2, e3, e4, e5, e6]
  exact congrArg (fun q => rowNorm (rowDiff q x1 x2 x3 x4 (lamOf x5)) (x6 (ix2 0 k)) k) e

/-- The output block at an index. -/
theorem out_apply (y : S2048x128.Idx) : (out0_7 (F := Ideal) x0 x1 x2 x3 x4 x5 x6 y : EReal) = outRow x0 x1 x2 x3 x4 x5 x6 (y 0) (y 1) := by
  unfold out0_7
  canon_tiles x h
  case piece0 =>
    exact tile_ld x0 x1 x2 x3 x4 x5 x6 _ _ x y (by simpa using h0) (by simpa using h1)
  all_goals exact tile_ld x0 x1 x2 x3 x4 x5 x6 _ _ x y (by simpa using h0) (by simpa using h1)

end Cert.Attention

end
-- ==== Proof.Attention.Ref.lean ====
/- The reference attention read at an index: the scores of a row of queries, their softmax over the 2304 keys, the
   branches' difference, the weighted values, and the norm. -/
module

public import proofs.«01_k».proof.Proof.Attention.Row
public import proofs.«01_k».proof.Proof.Gen.ReferenceIdeal.Read

@[expose] public section

set_option maxRecDepth 16384

noncomputable section

namespace Cert.Attention.Ref

open Idealize.ShloMosaic Idealize.ShloMosaic.TcCoe Idealize.SL.Sem
open Cert.ReferenceIdeal Cert.ReferenceIdeal.Gen Cert.ReferenceIdeal.Read

/-- The softmax of a row of scores. -/
def soft (s : Fin 2304 → EReal) (n : Fin 2304) : EReal :=
  let top := max (Ideal.ofBits .f32 0xFF800000#32) (largest s)
  Ideal.div (Ideal.exp (s n - top)) (∑ n, Ideal.exp (s n - top))

/-- The two branches' weights, applied to the values. -/
def weigh (lam : EReal) (p₀ p₁ v : Fin 2304 → EReal) : EReal := ∑ n, (p₀ n - lam * p₁ n) * v n

/-- The scaled scores of a row of queries against a branch's keys. -/
def score (q : Fin 64 → EReal) (k : Fin 2304 → Fin 64 → EReal) (n : Fin 2304) : EReal :=
  (∑ d, q d * (Ideal.ofBits .f32 0x41000000#32 * Ideal.log (Ideal.ofBits .f32 0x40000000#32)) * k n d) * Ideal.ofBits .f32 0x3E000000#32

variable (x0 x1 x2 : FVec Ideal S65536x1024 .bf16) (x3 x4 : FVec Ideal S8192x1024 .bf16) (x5 : FVec Ideal S4x64 .f32) (x6 : FVec Ideal S1024 .f32)

/-- The query of token `t` of image `b`, head `h`, branch `a`. -/
def query (b : Fin 32) (h : Fin 8) (a : Fin 2) (t : Fin 2048) (d : Fin 64) : EReal :=
  x0 (ix2 (⟨b * 2048 + t, by omega⟩ : Fin 65536) (⟨h * 128 + a * 64 + d, by omega⟩ : Fin 1024))

/-- The key `n`: a latent token's, then a context token's. -/
def key (b : Fin 32) (h : Fin 8) (a : Fin 2) (n : Fin 2304) (d : Fin 64) : EReal :=
  if _ : (n : ℕ) < 2048 then x1 (ix2 (⟨b * 2048 + n, by omega⟩ : Fin 65536) (⟨h * 128 + a * 64 + d, by omega⟩ : Fin 1024))
  else x3 (ix2 (⟨b * 256 + (n - 2048), by omega⟩ : Fin 8192) (⟨h * 128 + a * 64 + d, by omega⟩ : Fin 1024))

/-- The value `n` likewise. -/
def value (b : Fin 32) (h : Fin 8) (n : Fin 2304) (j : Fin 128) : EReal :=
  if _ : (n : ℕ) < 2048 then x2 (ix2 (⟨b * 2048 + n, by omega⟩ : Fin 65536) (⟨h * 128 + j, by omega⟩ : Fin 1024))
  else x4 (ix2 (⟨b * 256 + (n - 2048), by omega⟩ : Fin 8192) (⟨h * 128 + j, by omega⟩ : Fin 1024))

theorem query_apply (b : Fin 32) (h : Fin 8) (a : Fin 2) (t : Fin 2048) (d : Fin 64) :
    val_main_v36 (F := Ideal) x0 (ix5 b h a t d) = query x0 b h a t d * (Ideal.ofBits .f32 0x41000000#32 * Ideal.log (Ideal.ofBits .f32 0x40000000#32)) := by
  pointwise [val_main_v36, val_main_v6, val_main_v5, val_main_v0, val_main_v35, val_main_v34, val_main_v33, val_main_cst_3, val_main_cst_2, query]

theorem key_apply (b : Fin 32) (h : Fin 8) (a : Fin 2) (n : Fin 2304) (d : Fin 64) :
    val_main_v15 (F := Ideal) x1 x3 (ix5 b h a n d) = key x1 x3 b h a n d := by
  pointwise [val_main_v15, val_main_v8, val_main_v7, val_main_v1, val_main_v10, val_main_v9, val_main_v3, key]

theorem value_apply (b : Fin 32) (h : Fin 8) (n : Fin 2304) (j : Fin 128) :
    val_main_v16 (F := Ideal) x2 x4 (ix4 b h n j) = value x2 x4 b h n j := by
  pointwise [val_main_v16, val_main_v14, val_main_v13, val_main_v12, val_main_v11, val_main_v2, val_main_v4, value]

theorem score_apply (b : Fin 32) (h : Fin 8) (a : Fin 2) (t : Fin 2048) (n : Fin 2304) :
    val_main_v39 (F := Ideal) x0 x1 x3 (ix5 b h a t n) = score (query x0 b h a t) (key x1 x3 b h a) n := by
  rw [val_main_v39_apply, val_main_v38_apply, val_main_cst_4_apply, val_main_v37_apply]
  have e₁ : ∀ d, lidx_main_v37 (ix5 b h a t n) d = ix5 b h a t d := fun d => by funext c; fin_cases c <;> rfl
  have e₂ : ∀ d, ridx_main_v37 (ix5 b h a t n) d = ix5 b h a n d := fun d => by funext c; fin_cases c <;> rfl
  simp only [e₁, e₂, query_apply, key_apply]
  rfl

theorem top_apply (b : Fin 32) (h : Fin 8) (a : Fin 2) (t : Fin 2048) :
    val_main_v40 (F := Ideal) x0 x1 x3 (ix4 b h a t) = largest (fun n => val_main_v39 (F := Ideal) x0 x1 x3 (ix5 b h a t n)) := by
  unfold val_main_v40
  generalize val_main_v39 (F := Ideal) x0 x1 x3 = s
  pointwise [val_main_cst_5, largest]

theorem weight_apply (b : Fin 32) (h : Fin 8) (a : Fin 2) (t : Fin 2048) (n : Fin 2304) :
    val_main_v46 (F := Ideal) x0 x1 x3 (ix5 b h a t n) = Ideal.exp (val_main_v39 (F := Ideal) x0 x1 x3 (ix5 b h a t n) - max (Ideal.ofBits .f32 0xFF800000#32) (val_main_v40 (F := Ideal) x0 x1 x3 (ix4 b h a t))) := by
  rw [val_main_v46_apply, val_main_v45_apply, val_main_v44_apply, val_main_v43_apply, val_main_v42_apply, val_main_v41_apply, val_main_cst_6_apply]
  have e : idx_main_v43 (idx_main_v44 (ix5 b h a t n)) = ix4 b h a t := by funext c; fin_cases c <;> rfl
  rw [e]
  generalize val_main_v39 (F := Ideal) x0 x1 x3 = s
  generalize val_main_v40 (F := Ideal) x0 x1 x3 = m
  rfl

theorem total_apply (b : Fin 32) (h : Fin 8) (a : Fin 2) (t : Fin 2048) :
    val_main_v47 (F := Ideal) x0 x1 x3 (ix4 b h a t) = ∑ n, val_main_v46 (F := Ideal) x0 x1 x3 (ix5 b h a t n) := by
  rw [val_main_v47_apply, val_main_cst_7_apply]
  have e : ∀ n, idx_main_v47 (ix4 b h a t) n = ix5 b h a t n := fun n => by funext c; fin_cases c <;> rfl
  simp only [e]
  exact (congrArg (· + _) Ideal.ofBits_zero_f32).trans (zero_add _)

theorem quotient_apply (b : Fin 32) (h : Fin 8) (a : Fin 2) (t : Fin 2048) (n : Fin 2304) :
    val_main_v50 (F := Ideal) x0 x1 x3 (ix5 b h a t n) = Ideal.div (val_main_v46 (F := Ideal) x0 x1 x3 (ix5 b h a t n)) (val_main_v47 (F := Ideal) x0 x1 x3 (ix4 b h a t)) := by
  rw [val_main_v50_apply, val_main_v49_apply, val_main_v48_apply]
  have e : idx_main_v48 (idx_main_v49 (ix5 b h a t n)) = ix4 b h a t := by funext c; fin_cases c <;> rfl
  rw [e]
  generalize val_main_v46 (F := Ideal) x0 x1 x3 = p
  generalize val_main_v47 (F := Ideal) x0 x1 x3 = l
  rfl

/-- The softmax of the reference's scores. -/
theorem softmax_apply (b : Fin 32) (h : Fin 8) (a : Fin 2) (t : Fin 2048) (n : Fin 2304) :
    val_main_v50 (F := Ideal) x0 x1 x3 (ix5 b h a t n) = soft (score (query x0 b h a t) (key x1 x3 b h a)) n := by
  rw [quotient_apply, total_apply]
  simp only [weight_apply, top_apply, score_apply]
  rfl

theorem diff_apply (b : Fin 32) (h : Fin 8) (t : Fin 2048) (n : Fin 2304) :
    val_main_v57 (F := Ideal) x0 x1 x3 x5 (ix4 b h t n)
      = val_main_v50 (F := Ideal) x0 x1 x3 (ix5 b h 0 t n) - val_main_v32 (F := Ideal) x5 ix0 * val_main_v50 (F := Ideal) x0 x1 x3 (ix5 b h 1 t n) := by
  rw [val_main_v57_apply, val_main_v56_apply, val_main_v55_apply, val_main_v54_apply, val_main_v53_apply, val_main_v52_apply, val_main_v51_apply]
  have e₀ : idx_main_v51 (idx_main_v52 (ix4 b h t n)) = ix5 b h 0 t n := by
    funext c; fin_cases c <;> apply Fin.ext <;> simp <;> omega
  have e₁ : idx_main_v53 (idx_main_v54 (ix4 b h t n)) = ix5 b h 1 t n := by
    funext c; fin_cases c <;> apply Fin.ext <;> simp <;> omega
  have e₂ : idx_main_v55 (ix4 b h t n) = ix0 := funext fun c => c.elim0
  rw [e₀, e₁, e₂]
  generalize val_main_v50 (F := Ideal) x0 x1 x3 = p
  generalize val_main_v32 (F := Ideal) x5 = lam
  rfl

theorem lam_apply : val_main_v32 (F := Ideal) x5 ix0 = lamOf x5 := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_cst, val_main_cst_0, val_main_cst_1, lamOf]

/-- The attention's output before the norm. -/
theorem attend_apply (b : Fin 32) (h : Fin 8) (t : Fin 2048) (j : Fin 128) :
    val_main_v58 (F := Ideal) x0 x1 x2 x3 x4 x5 (ix4 b h t j)
      = weigh (lamOf x5) (soft (score (query x0 b h 0 t) (key x1 x3 b h 0))) (soft (score (query x0 b h 1 t) (key x1 x3 b h 1)))
          (fun n => value x2 x4 b h n j) := by
  rw [val_main_v58_apply]
  have e₁ : ∀ n, lidx_main_v58 (ix4 b h t j) n = ix4 b h t n := fun n => by funext c; fin_cases c <;> rfl
  have e₂ : ∀ n, ridx_main_v58 (ix4 b h t j) n = ix4 b h n j := fun n => by funext c; fin_cases c <;> rfl
  simp only [e₁, e₂, diff_apply, softmax_apply, value_apply, lam_apply]
  rfl

theorem square_apply (b : Fin 32) (h : Fin 8) (t : Fin 2048) :
    val_main_v60 (F := Ideal) x0 x1 x2 x3 x4 x5 (ix3 b h t)
      = ∑ j, val_main_v58 (F := Ideal) x0 x1 x2 x3 x4 x5 (ix4 b h t j) * val_main_v58 (F := Ideal) x0 x1 x2 x3 x4 x5 (ix4 b h t j) := by
  rw [val_main_v60_apply, val_main_cst_8_apply]
  have e : ∀ n, idx_main_v60 (ix3 b h t) n = ix4 b h t n := fun n => by funext c; fin_cases c <;> rfl
  simp only [e]
  refine ((congrArg (· + _) Ideal.ofBits_zero_f32).trans (zero_add _)).trans (Finset.sum_congr rfl fun n _ => ?_)
  rw [val_main_v59_apply]
  generalize val_main_v58 (F := Ideal) x0 x1 x2 x3 x4 x5 = o
  rfl

theorem norm_apply (b : Fin 32) (h : Fin 8) (t : Fin 2048) (j : Fin 128) :
    val_main_v70 (F := Ideal) x0 x1 x2 x3 x4 x5 (ix4 b h t j) = val_main_v58 (F := Ideal) x0 x1 x2 x3 x4 x5 (ix4 b h t j)
      * Ideal.rsqrt (Ideal.div (val_main_v60 (F := Ideal) x0 x1 x2 x3 x4 x5 (ix3 b h t)) (Ideal.ofBits .f32 0x43000000#32) + Ideal.ofBits .f32 0x358637BD#32)
      * Ideal.ofBits .f32 0x3F4CCCCD#32 := by
  rw [val_main_v70_apply, val_main_v69_apply, val_main_cst_11_apply, val_main_v68_apply, val_main_v67_apply, val_main_v66_apply, val_main_v65_apply,
    val_main_v64_apply, val_main_cst_10_apply, val_main_v63_apply, val_main_v62_apply, val_main_cst_9_apply, val_main_v61_apply]
  have e : idx_main_v61 (idx_main_v67 (ix4 b h t j)) = ix3 b h t := by funext c; fin_cases c <;> rfl
  rw [e]
  generalize val_main_v58 (F := Ideal) x0 x1 x2 x3 x4 x5 = o
  generalize val_main_v60 (F := Ideal) x0 x1 x2 x3 x4 x5 = z
  rfl

theorem merged_apply (i : Fin 65536) (j : Fin 1024) : val_main_v76 (F := Ideal) x0 x1 x2 x3 x4 x5 x6 (ix2 i j) =
    val_main_v70 (F := Ideal) x0 x1 x2 x3 x4 x5 (ix4 (⟨i / 2048, by omega⟩ : Fin 32) (⟨j / 128, by omega⟩ : Fin 8) (⟨i % 2048, by omega⟩ : Fin 2048) (⟨j % 128, by omega⟩ : Fin 128))
      * x6 (ix1 j) := by
  rw [val_main_v76_apply, val_main_v75_apply, val_main_v74_apply, val_main_v73_apply, val_main_v72_apply, val_main_v71_apply]
  have e₀ : idx_main_v71 (idx_main_v72 (ix2 i j)) = ix4 (⟨i / 2048, by omega⟩ : Fin 32) (⟨j / 128, by omega⟩ : Fin 8) (⟨i % 2048, by omega⟩ : Fin 2048) (⟨j % 128, by omega⟩ : Fin 128) := by
    funext c; fin_cases c <;> apply Fin.ext <;> simp <;> omega
  have e₁ : idx_main_v73 (idx_main_v74 (ix2 i j)) = ix1 j := by funext c; fin_cases c <;> rfl
  rw [e₀, e₁]
  generalize val_main_v70 (F := Ideal) x0 x1 x2 x3 x4 x5 = o
  rfl

/-- The reference's result at row `i`, column `j`. -/
def row (i : Fin 65536) (h : Fin 8) (j : Fin 128) : EReal :=
  weigh (lamOf x5)
    (soft (score (query x0 ⟨i / 2048, by omega⟩ h 0 ⟨i % 2048, by omega⟩) (key x1 x3 ⟨i / 2048, by omega⟩ h 0)))
    (soft (score (query x0 ⟨i / 2048, by omega⟩ h 1 ⟨i % 2048, by omega⟩) (key x1 x3 ⟨i / 2048, by omega⟩ h 1)))
    (fun n => value x2 x4 ⟨i / 2048, by omega⟩ h n j)

theorem result_apply (i : Fin 65536) (j : Fin 1024) : val_main_v76 (F := Ideal) x0 x1 x2 x3 x4 x5 x6 (ix2 i j)
    = rowNorm (row x0 x1 x2 x3 x4 x5 i ⟨j / 128, by omega⟩) (x6 (ix1 j)) ⟨j % 128, by omega⟩ := by
  rw [merged_apply, norm_apply, square_apply]
  simp only [attend_apply]
  rfl

end Cert.Attention.Ref

end
-- ==== Proof.Attention.Softmax.lean ====
/- For real operands the kernel's row and the reference's row agree. The kernel takes powers of two of the scores above
   the largest of a branch and divides a weighted sum by the sum of the weights; the reference takes powers of e of
   the scores times log 2, divides each weight first, and subtracts the branches before the values are applied. -/
module

public import proofs.«01_k».proof.Proof.Attention.Ref

@[expose] public section

noncomputable section

namespace Cert.Attention

open Idealize.ShloMosaic Idealize.ShloMosaic.TcCoe Idealize.SL.Sem
open Cert.KernelIdeal Cert.KernelIdeal.Gen

theorem bits_eight : Ideal.ofBits .f32 0x41000000#32 = ((8 : ℝ) : EReal) := by
  simp [Ideal.ofBits, Ideal.ieee, ← EReal.coe_mul]; norm_num

theorem bits_two : Ideal.ofBits .f32 0x40000000#32 = ((2 : ℝ) : EReal) := by
  simp [Ideal.ofBits, Ideal.ieee, ← EReal.coe_mul]; norm_num

theorem bits_eighth : Ideal.ofBits .f32 0x3E000000#32 = ((1 / 8 : ℝ) : EReal) := by
  simp [Ideal.ofBits, Ideal.ieee, ← EReal.coe_mul]; norm_num

theorem bits_bot : Ideal.ofBits .f32 0xFF800000#32 = ⊥ := by
  simp [Ideal.ofBits, Ideal.ieee]

/-- A sum of reals, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals is a real. -/
theorem largest_coe {n : ℕ} [NeZero n] (f : Fin n → ℝ) : ∃ M : ℝ, largest (fun i => ((f i : ℝ) : EReal)) = (M : EReal) := by
  have e : largest (fun i => ((f i : ℝ) : EReal)) = Finset.univ.sup (fun i => ((f i : ℝ) : EReal)) := by
    unfold largest; rw [bits_bot]; rfl
  obtain ⟨i, -, h⟩ := Finset.exists_mem_eq_sup Finset.univ Finset.univ_nonempty (fun i : Fin n => ((f i : ℝ) : EReal))
  exact ⟨f i, e.trans h⟩

theorem pow₂_coe (x : ℝ) : pow₂ (x : EReal) = ((Real.exp (Real.log 2 * x) : ℝ) : EReal) := by
  show Ideal.exp2 (x : EReal) = _
  rw [Ideal.exp2_coe, Real.exp_mul, Real.exp_log two_pos]; rfl

/-- A family over the latent tokens, then one over the context's. -/
def join {α : Type} (f : Fin 2048 → α) (g : Fin 256 → α) (n : Fin 2304) : α :=
  if h : (n : ℕ) < 2048 then f ⟨n, h⟩ else g ⟨n - 2048, by omega⟩

theorem sum_join (f : Fin 2048 → ℝ) (g : Fin 256 → ℝ) : (∑ i, f i) + ∑ i, g i = ∑ n, join f g n := by
  rw [show (∑ n : Fin 2304, join f g n) = ∑ n : Fin (2048 + 256), join f g n from rfl, Fin.sum_univ_add]
  refine congrArg₂ (· + ·) ?_ ?_
  · exact Finset.sum_congr rfl fun i _ => by simp [join]
  · exact Finset.sum_congr rfl fun i _ => by simp [join]

/-- The scores of a branch, times log 2. -/
def logits (Q : Fin 128 → ℝ) (K : Fin 2304 → Fin 128 → ℝ) (n : Fin 2304) : ℝ := Real.log 2 * ∑ d, Q d * K n d

/-- A softmax over real scores, applied to real values. -/
def mean (S V : Fin 2304 → ℝ) : ℝ := (∑ n, Real.exp (S n) * V n) / ∑ n, Real.exp (S n)

section

variable (KL : Fin 2048 → Fin 128 → ℝ) (KC : Fin 256 → Fin 128 → ℝ) (VL : Fin 2048 → Fin 128 → ℝ) (VC : Fin 256 → Fin 128 → ℝ)
variable (kl : V S2048x128 .bf16) (kc : V S256x128 .bf16) (vl : V S2048x128 .bf16) (vc : V S256x128 .bf16)
variable (hkl : ∀ i d, kl (ix2 i d) = ((KL i d : ℝ) : EReal)) (hkc : ∀ i d, kc (ix2 i d) = ((KC i d : ℝ) : EReal))
variable (hvl : ∀ i d, vl (ix2 i d) = ((VL i d : ℝ) : EReal)) (hvc : ∀ i d, vc (ix2 i d) = ((VC i d : ℝ) : EReal))

include hkl hkc hvl hvc in
/-- A branch of the kernel's row, for real operands. -/
theorem rowBranch_coe (Q : Fin 128 → ℝ) (j : Fin 128) :
    rowBranch (fun d => ((Q d : ℝ) : EReal)) kl kc vl vc j = ((mean (logits Q (join KL KC)) (fun n => join VL VC n j) : ℝ) : EReal) := by
  have eL : ∀ i, sL (fun d => ((Q d : ℝ) : EReal)) kl i = ((∑ d, Q d * KL i d : ℝ) : EReal) := fun i => by
    rw [← coe_sum]; exact Finset.sum_congr rfl fun d _ => by rw [hkl, EReal.coe_mul]
  have eC : ∀ i, sC (fun d => ((Q d : ℝ) : EReal)) kc i = ((∑ d, Q d * KC i d : ℝ) : EReal) := fun i => by
    rw [← coe_sum]; exact Finset.sum_congr rfl fun d _ => by rw [hkc, EReal.coe_mul]
  obtain ⟨ML, hL⟩ := largest_coe fun i => ∑ d, Q d * KL i d
  obtain ⟨MC, hC⟩ := largest_coe fun i => ∑ d, Q d * KC i d
  have eM : sTop (fun d => ((Q d : ℝ) : EReal)) kl kc = ((max ML MC : ℝ) : EReal) := by
    unfold sTop; rw [funext eL, funext eC, hL, hC]; exact (EReal.coe_strictMono.monotone.map_max).symm
  generalize max ML MC = M at eM
  have pL : ∀ i, pow₂ (sL (fun d => ((Q d : ℝ) : EReal)) kl i - sTop (fun d => ((Q d : ℝ) : EReal)) kl kc)
      = ((Real.exp (Real.log 2 * (∑ d, Q d * KL i d) - Real.log 2 * M) : ℝ) : EReal) := fun i => by
    rw [eL, eM, ← EReal.coe_sub, pow₂_coe, mul_sub]
  have pC : ∀ i, pow₂ (sC (fun d => ((Q d : ℝ) : EReal)) kc i - sTop (fun d => ((Q d : ℝ) : EReal)) kl kc)
      = ((Real.exp (Real.log 2 * (∑ d, Q d * KC i d) - Real.log 2 * M) : ℝ) : EReal) := fun i => by
    rw [eC, eM, ← EReal.coe_sub, pow₂_coe, mul_sub]
  unfold rowBranch
  simp only [pL, pC, hvl, hvc, ← EReal.coe_mul, coe_sum, ← EReal.coe_add, sum_join]
  have eD : ∀ n, join (fun i => Real.exp (Real.log 2 * (∑ d, Q d * KL i d) - Real.log 2 * M))
      (fun i => Real.exp (Real.log 2 * (∑ d, Q d * KC i d) - Real.log 2 * M)) n
      = Real.exp (logits Q (join KL KC) n) * Real.exp (-(Real.log 2 * M)) := fun n => by
    rw [← Real.exp_add]; unfold logits join; split <;> rfl
  have eN : ∀ n, join (fun i => Real.exp (Real.log 2 * (∑ d, Q d * KL i d) - Real.log 2 * M) * VL i j)
      (fun i => Real.exp (Real.log 2 * (∑ d, Q d * KC i d) - Real.log 2 * M) * VC i j) n
      = Real.exp (logits Q (join KL KC) n) * join VL VC n j * Real.exp (-(Real.log 2 * M)) := fun n => by
    rw [mul_right_comm, ← eD]; unfold join; split <;> rfl
  simp only [eD, eN, ← Finset.sum_mul]
  have pos : 0 < ∑ n, Real.exp (logits Q (join KL KC) n) := Finset.sum_pos (fun n _ => Real.exp_pos _) Finset.univ_nonempty
  rw [Ideal.div_coe (mul_pos pos (Real.exp_pos _)).ne', ← EReal.coe_mul, mul_one_div, mul_div_mul_right _ _ (Real.exp_pos _).ne']
  rfl

end

/-- The reference's softmax weights, for real scores. -/
theorem soft_coe (S : Fin 2304 → ℝ) (n : Fin 2304) :
    Ref.soft (fun n => ((S n : ℝ) : EReal)) n = ((Real.exp (S n) / ∑ n, Real.exp (S n) : ℝ) : EReal) := by
  obtain ⟨M, hM⟩ := largest_coe S
  unfold Ref.soft
  rw [hM, bits_bot]
  have pos : 0 < ∑ n, Real.exp (S n) := Finset.sum_pos (fun n _ => Real.exp_pos _) Finset.univ_nonempty
  simp only [bot_sup_eq, ← EReal.coe_sub, Ideal.exp_coe, coe_sum]
  simp only [sub_eq_add_neg, Real.exp_add, ← Finset.sum_mul]
  rw [Ideal.div_coe (mul_pos pos (Real.exp_pos _)).ne', ← EReal.coe_mul, mul_one_div, mul_div_mul_right _ _ (Real.exp_pos _).ne']

/-- The reference's scores, for real operands. -/
theorem score_coe (q : Fin 64 → ℝ) (k : Fin 2304 → Fin 64 → ℝ) (n : Fin 2304) :
    Ref.score (fun d => ((q d : ℝ) : EReal)) (fun n d => ((k n d : ℝ) : EReal)) n = ((Real.log 2 * ∑ d, q d * k n d : ℝ) : EReal) := by
  unfold Ref.score
  rw [bits_eight, bits_two, bits_eighth, Ideal.log_coe, if_neg (by norm_num)]
  simp only [← EReal.coe_mul, coe_sum]
  congr 1
  rw [Finset.sum_mul, Finset.mul_sum]
  exact Finset.sum_congr rfl fun d _ => by ring

/-- The branches' difference, applied to the values at once or branch by branch. -/
theorem weigh_coe (lam : ℝ) (S₀ S₁ V : Fin 2304 → ℝ) :
    Ref.weigh (lam : EReal) (Ref.soft fun n => ((S₀ n : ℝ) : EReal)) (Ref.soft fun n => ((S₁ n : ℝ) : EReal)) (fun n => ((V n : ℝ) : EReal))
      = ((mean S₀ V : ℝ) : EReal) - (lam : EReal) * ((mean S₁ V : ℝ) : EReal) := by
  unfold Ref.weigh
  simp only [soft_coe, ← EReal.coe_mul, ← EReal.coe_sub, coe_sum]
  congr 1
  unfold mean
  rw [Finset.sum_div, Finset.sum_div, Finset.mul_sum, ← Finset.sum_sub_distrib]
  exact Finset.sum_congr rfl fun n _ => by ring

/-- A product over the first 64 lanes, and over the last 64. -/
theorem sum_low (Q K : Fin 128 → ℝ) :
    ∑ d : Fin 128, (if (d : ℕ) < 64 then Q d else 0) * K d = ∑ d : Fin 64, Q ⟨d, by omega⟩ * K ⟨d, by omega⟩ := by
  rw [show (∑ d : Fin 128, (if (d : ℕ) < 64 then Q d else 0) * K d) = ∑ d : Fin (64 + 64), (fun d : Fin 128 => (if (d : ℕ) < 64 then Q d else 0) * K d) d from rfl, Fin.sum_univ_add]
  refine (congrArg₂ (· + ·) (Finset.sum_congr rfl fun d _ => ?_) (Finset.sum_eq_zero fun d _ => ?_)).trans (add_zero _)
  · show (if _ then _ else _) * _ = _
    rw [if_pos (by simp)]; rfl
  · show (if _ then _ else _) * _ = _
    rw [if_neg (by simp), zero_mul]

theorem sum_high (Q K : Fin 128 → ℝ) :
    ∑ d : Fin 128, (if 64 ≤ (d : ℕ) then Q d else 0) * K d = ∑ d : Fin 64, Q ⟨64 + d, by omega⟩ * K ⟨64 + d, by omega⟩ := by
  rw [show (∑ d : Fin 128, (if 64 ≤ (d : ℕ) then Q d else 0) * K d) = ∑ d : Fin (64 + 64), (fun d : Fin 128 => (if 64 ≤ (d : ℕ) then Q d else 0) * K d) d from rfl, Fin.sum_univ_add]
  refine (congrArg₂ (· + ·) (Finset.sum_eq_zero fun d _ => ?_) (Finset.sum_congr rfl fun d _ => ?_)).trans (zero_add _)
  · show (if _ then _ else _) * _ = _
    rw [if_neg (by simp), zero_mul]
  · show (if _ then _ else _) * _ = _
    rw [if_pos (by simp)]; rfl

/-- The kernel's row is the reference's, the operands real. -/
theorem row_eq (Q : Fin 128 → ℝ) (KL : Fin 2048 → Fin 128 → ℝ) (KC : Fin 256 → Fin 128 → ℝ) (VL : Fin 2048 → Fin 128 → ℝ) (VC : Fin 256 → Fin 128 → ℝ) (lam : ℝ)
    (kl : V S2048x128 .bf16) (kc : V S256x128 .bf16) (vl : V S2048x128 .bf16) (vc : V S256x128 .bf16)
    (hkl : ∀ i d, kl (ix2 i d) = ((KL i d : ℝ) : EReal)) (hkc : ∀ i d, kc (ix2 i d) = ((KC i d : ℝ) : EReal))
    (hvl : ∀ i d, vl (ix2 i d) = ((VL i d : ℝ) : EReal)) (hvc : ∀ i d, vc (ix2 i d) = ((VC i d : ℝ) : EReal)) (j : Fin 128) :
    rowDiff (fun d => ((Q d : ℝ) : EReal)) kl kc vl vc (lam : EReal) j
      = Ref.weigh (lam : EReal)
          (Ref.soft (Ref.score (fun d => ((Q ⟨d, by omega⟩ : ℝ) : EReal)) (fun n d => ((join KL KC n ⟨d, by omega⟩ : ℝ) : EReal))))
          (Ref.soft (Ref.score (fun d => ((Q ⟨64 + d, by omega⟩ : ℝ) : EReal)) (fun n d => ((join KL KC n ⟨64 + d, by omega⟩ : ℝ) : EReal))))
          (fun n => ((join VL VC n j : ℝ) : EReal)) := by
  rw [funext (score_coe _ _), funext (score_coe _ _), weigh_coe]
  have el : low (fun d => ((Q d : ℝ) : EReal)) = fun d : Fin 128 => (((if (d : ℕ) < 64 then Q d else 0 : ℝ)) : EReal) := funext fun d => by
    unfold low; split <;> rfl
  have eh : high (fun d => ((Q d : ℝ) : EReal)) = fun d : Fin 128 => (((if 64 ≤ (d : ℕ) then Q d else 0 : ℝ)) : EReal) := funext fun d => by
    unfold high; split <;> rfl
  unfold rowDiff
  rw [el, eh, rowBranch_coe KL KC VL VC kl kc vl vc hkl hkc hvl hvc, rowBranch_coe KL KC VL VC kl kc vl vc hkl hkc hvl hvc]
  unfold logits
  simp only [sum_low, sum_high]

end Cert.Attention

end
-- ==== Proof.Attention.Real.lean ====
/- The precondition: every element of the operands is a real number. -/
module

public import proofs.«01_k».proof.Proof.Attention.Softmax
public import proofs.«01_k».proof.Proof.Gen.Pre_finite

@[expose] public section

set_option maxRecDepth 16384

noncomputable section

namespace Cert.Attention

open Idealize.ShloMosaic Idealize.ShloMosaic.TcCoe Idealize.SL.Sem
open Cert.Pre_finite Cert.Pre_finite.Gen

theorem bits_top : Ideal.ofBits .f32 0x7F800000#32 = ⊤ := by
  simp [Ideal.ofBits, Ideal.ieee]

/-- An extended real of magnitude below infinity is a real. -/
theorem real_of_lt {x : EReal} (h : max x (-x) < ⊤) : ∃ r : ℝ, x = (r : EReal) := by
  induction x with
  | bot => simp at h
  | top => simp at h
  | coe r => exact ⟨r, rfl⟩

theorem real_of_cmp {x : EReal} (h : FloatOps.cmpf (F := Ideal) (φ := .f32) .olt (max x (-x)) (Ideal.ofBits .f32 0x7F800000#32) = 1#1) :
    ∃ r : ℝ, x = (r : EReal) := by
  apply real_of_lt
  rw [bits_top] at h
  by_contra hn
  rw [Ideal.cmpf_def] at h
  simp [Ideal.cmp, hn] at h

variable (x0 x1 x2 : FVec Ideal S65536x1024 .bf16) (x3 x4 : FVec Ideal S8192x1024 .bf16) (x5 : FVec Ideal S4x64 .f32) (x6 : FVec Ideal S1024 .f32)

theorem real0 (h : (fn (F := Ideal) x0 x1 x2 x3 x4 x5 x6).1 = fun _ => 1#1) : ∃ f : S65536x1024.Idx → ℝ, ∀ i, x0 i = ((f i : ℝ) : EReal) :=
  Classical.skolem.1 fun i => real_of_cmp (congrFun h i)

theorem real1 (h : (fn (F := Ideal) x0 x1 x2 x3 x4 x5 x6).2.1 = fun _ => 1#1) : ∃ f : S65536x1024.Idx → ℝ, ∀ i, x1 i = ((f i : ℝ) : EReal) :=
  Classical.skolem.1 fun i => real_of_cmp (congrFun h i)

theorem real2 (h : (fn (F := Ideal) x0 x1 x2 x3 x4 x5 x6).2.2.1 = fun _ => 1#1) : ∃ f : S65536x1024.Idx → ℝ, ∀ i, x2 i = ((f i : ℝ) : EReal) :=
  Classical.skolem.1 fun i => real_of_cmp (congrFun h i)

theorem real3 (h : (fn (F := Ideal) x0 x1 x2 x3 x4 x5 x6).2.2.2.1 = fun _ => 1#1) : ∃ f : S8192x1024.Idx → ℝ, ∀ i, x3 i = ((f i : ℝ) : EReal) :=
  Classical.skolem.1 fun i => real_of_cmp (congrFun h i)

theorem real4 (h : (fn (F := Ideal) x0 x1 x2 x3 x4 x5 x6).2.2.2.2.1 = fun _ => 1#1) : ∃ f : S8192x1024.Idx → ℝ, ∀ i, x4 i = ((f i : ℝ) : EReal) :=
  Classical.skolem.1 fun i => real_of_cmp (congrFun h i)

theorem real5 (h : (fn (F := Ideal) x0 x1 x2 x3 x4 x5 x6).2.2.2.2.2 = fun _ => 1#1) : ∃ f : S4x64.Idx → ℝ, ∀ i, x5 i = ((f i : ℝ) : EReal) :=
  Classical.skolem.1 fun i => real_of_cmp (congrFun h i)

end Cert.Attention

end
-- ==== Proof.Attention.Final.lean ====
/- The attention kernel's output array is the reference's result: which block holds an element, which rows and columns
   of the operands that block was computed from, and the row lemma there. -/
module

public import proofs.«01_k».proof.Proof.Attention.Out
public import proofs.«01_k».proof.Proof.Attention.Real
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Attention

open Idealize.ShloMosaic Idealize.ShloMosaic.TcCoe Idealize.SL.Sem
open Cert.KernelIdeal Cert.KernelIdeal.Gen
open Idealize.ShloMosaic.Pipeline (Dat)

/-- The head of point `t` is `t % 8`, its image `t / 8`. -/
theorem idx0 : ∀ t : Fin cfg0.N, win0_0.index t = ![t.val / 8, t.val % 8] := (by decide +kernel : ∀ t : Fin grid0.N, _)
theorem idx1 : ∀ t : Fin cfg0.N, win0_1.index t = ![t.val / 8, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, t.val % 8] := (by decide +kernel : ∀ t : Fin grid0.N, _)
theorem idx7 : ∀ t : Fin cfg0.N, win0_7.index t = ![t.val / 8, t.val % 8] := (by decide +kernel : ∀ t : Fin grid0.N, _)
theorem covers : ((cfgs 0).win 7).Covers := by decide +kernel

variable (m : (ℓ : Loc nD τ sig) → Buf (Elt Ideal) ℓ)

/-- Rows and columns of the operands: token `n` of image `b`, latent or context; lane `d` of head `h`. -/
def lrow (b : Fin 32) (n : Fin 2048) : Fin 65536 := ⟨b * 2048 + n, by omega⟩
def crow (b : Fin 32) (n : Fin 256) : Fin 8192 := ⟨b * 256 + n, by omega⟩
def col (h : Fin 8) (d : Fin 128) : Fin 1024 := ⟨h * 128 + d, by omega⟩

section Reference

variable {x0 x1 x2 : FVec Ideal S65536x1024 .bf16} {x3 x4 : FVec Ideal S8192x1024 .bf16} {x5 : FVec Ideal S4x64 .f32}
variable {f0 f1 f2 : S65536x1024.Idx → ℝ} {f3 f4 : S8192x1024.Idx → ℝ} {f5 : S4x64.Idx → ℝ}
variable (h0 : ∀ i, x0 i = ((f0 i : ℝ) : EReal)) (h1 : ∀ i, x1 i = ((f1 i : ℝ) : EReal)) (h2 : ∀ i, x2 i = ((f2 i : ℝ) : EReal))
variable (h3 : ∀ i, x3 i = ((f3 i : ℝ) : EReal)) (h4 : ∀ i, x4 i = ((f4 i : ℝ) : EReal)) (h5 : ∀ i, x5 i = ((f5 i : ℝ) : EReal))

include h0 in
theorem query_coe (b : Fin 32) (h : Fin 8) (a : Fin 2) (t : Fin 2048) (d : Fin 64) (e : Fin 128) (he : (e : ℕ) = a * 64 + d) :
    Ref.query x0 b h a t d = ((f0 (ix2 (lrow b t) (col h e)) : ℝ) : EReal) := by
  rw [← h0]
  exact congrArg x0 (congrArg₂ ix2 (Fin.ext rfl) (Fin.ext (by simp only [col]; omega)))

include h1 h3 in
theorem key_coe (b : Fin 32) (h : Fin 8) (a : Fin 2) (n : Fin 2304) (d : Fin 64) (e : Fin 128) (he : (e : ℕ) = a * 64 + d) :
    Ref.key x1 x3 b h a n d = ((join (fun n d => f1 (ix2 (lrow b n) (col h d))) (fun n d => f3 (ix2 (crow b n) (col h d))) n e : ℝ) : EReal) := by
  unfold Ref.key join
  split
  · rw [← h1]; exact congrArg x1 (congrArg₂ ix2 (Fin.ext rfl) (Fin.ext (by simp only [col]; omega)))
  · rw [← h3]; exact congrArg x3 (congrArg₂ ix2 (Fin.ext rfl) (Fin.ext (by simp only [col]; omega)))

include h2 h4 in
theorem value_coe (b : Fin 32) (h : Fin 8) (n : Fin 2304) (j : Fin 128) :
    Ref.value x2 x4 b h n j = ((join (fun n d => f2 (ix2 (lrow b n) (col h d))) (fun n d => f4 (ix2 (crow b n) (col h d))) n j : ℝ) : EReal) := by
  unfold Ref.value join
  split
  · rw [← h2]; rfl
  · rw [← h4]; rfl

theorem bits_lam : ∃ r : ℝ, Ideal.ofBits .f32 0x3E4CCCCD#32 = (r : EReal) := by
  simp [Ideal.ofBits, Ideal.ieee, ← EReal.coe_mul]

include h5 in
theorem lam_coe : ∃ r : ℝ, lamOf x5 = (r : EReal) := by
  obtain ⟨r, hr⟩ := bits_lam
  refine ⟨Real.exp (∑ d : Fin 64, f5 (ix2 0 d) * f5 (ix2 1 d)) - Real.exp (∑ d : Fin 64, f5 (ix2 2 d) * f5 (ix2 3 d)) + r, ?_⟩
  unfold lamOf
  simp only [hr, h5, ← EReal.coe_mul, coe_sum, Ideal.exp_coe, ← EReal.coe_sub, ← EReal.coe_add]

end Reference

section Blocks

variable (c : Dev nD) (t : Fin cfg0.N)

theorem q_block (i : Fin 2048) (d : Fin 128) (I : Fin 65536) (J : Fin 1024) (hI : (I : ℕ) = t.val / 8 * 2048 + i) (hJ : (J : ℕ) = t.val % 8 * 128 + d) :
    (iblk m c 0 t : S2048x128.Idx → EReal) (ix2 i d) = m ((c : Thread nD τ).loc main_arg0) (ix2 I J) := by
  blk_point [iblk, V, idx0 t]

theorem kl_block (i : Fin 2048) (d : Fin 128) (I : Fin 65536) (J : Fin 1024) (hI : (I : ℕ) = t.val / 8 * 2048 + i) (hJ : (J : ℕ) = t.val % 8 * 128 + d) :
    (iblk m c 1 t : S2048x128.Idx → EReal) (ix2 i d) = m ((c : Thread nD τ).loc main_arg1) (ix2 I J) := by
  blk_point [iblk, V, idx1 t]

theorem kc_block (i : Fin 256) (d : Fin 128) (I : Fin 8192) (J : Fin 1024) (hI : (I : ℕ) = t.val / 8 * 256 + i) (hJ : (J : ℕ) = t.val % 8 * 128 + d) :
    (iblk m c 2 t : S256x128.Idx → EReal) (ix2 i d) = m ((c : Thread nD τ).loc main_arg3) (ix2 I J) := by
  blk_point [iblk, V, idx2 t]

theorem vl_block (i : Fin 2048) (d : Fin 128) (I : Fin 65536) (J : Fin 1024) (hI : (I : ℕ) = t.val / 8 * 2048 + i) (hJ : (J : ℕ) = t.val % 8 * 128 + d) :
    (iblk m c 3 t : S2048x128.Idx → EReal) (ix2 i d) = m ((c : Thread nD τ).loc main_arg2) (ix2 I J) := by
  blk_point [iblk, V, idx3 t]

theorem vc_block (i : Fin 256) (d : Fin 128) (I : Fin 8192) (J : Fin 1024) (hI : (I : ℕ) = t.val / 8 * 256 + i) (hJ : (J : ℕ) = t.val % 8 * 128 + d) :
    (iblk m c 4 t : S256x128.Idx → EReal) (ix2 i d) = m ((c : Thread nD τ).loc main_arg4) (ix2 I J) := by
  blk_point [iblk, V, idx4 t]

theorem lp_block (i : Fin 4) (d : Fin 64) :
    (iblk m c 5 t : S4x64.Idx → EReal) (ix2 i d) = m ((c : Thread nD τ).loc main_arg5) (ix2 i d) := by
  blk_point [iblk, V, idx5 t]

theorem g_block (d : Fin 128) (J : Fin 1024) (hJ : (J : ℕ) = t.val % 8 * 128 + d) :
    (iblk m c 6 t : S1x128.Idx → EReal) (ix2 0 d) = m ((c : Thread nD τ).loc main_arg6) (ix1 J) := by
  blk_point [iblk, V, idx6 t]

end Blocks

/-- The precondition, on the kernel's memory: the operands are real. -/
def Reals (c : Dev nD) : Prop :=
  (∃ f : S65536x1024.Idx → ℝ, ∀ i, m ((c : Thread nD τ).loc main_arg0) i = ((f i : ℝ) : EReal))
  ∧ (∃ f : S65536x1024.Idx → ℝ, ∀ i, m ((c : Thread nD τ).loc main_arg1) i = ((f i : ℝ) : EReal))
  ∧ (∃ f : S65536x1024.Idx → ℝ, ∀ i, m ((c : Thread nD τ).loc main_arg2) i = ((f i : ℝ) : EReal))
  ∧ (∃ f : S8192x1024.Idx → ℝ, ∀ i, m ((c : Thread nD τ).loc main_arg3) i = ((f i : ℝ) : EReal))
  ∧ (∃ f : S8192x1024.Idx → ℝ, ∀ i, m ((c : Thread nD τ).loc main_arg4) i = ((f i : ℝ) : EReal))
  ∧ (∃ f : S4x64.Idx → ℝ, ∀ i, m ((c : Thread nD τ).loc main_arg5) i = ((f i : ℝ) : EReal))

/-- The reference's result over the kernel's arguments. -/
abbrev REF (c : Dev nD) : FVec Ideal S65536x1024 .bf16 :=
  Cert.ReferenceIdeal.Read.val_main_v76 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

variable {m} in
/-- Row `t` of image `b`, head `h`: the kernel's attention is the reference's. -/
theorem row_point (c : Dev nD) (hm : Reals m c) (t : Fin cfg0.N) (b : Fin 32) (h : Fin 8) (hb : (b : ℕ) = t.val / 8) (hh : (h : ℕ) = t.val % 8)
    (i : Fin 2048) (j : Fin 128) :
    rowDiff (fun d => (iblk m c 0 t : S2048x128.Idx → EReal) (ix2 i d)) (iblk m c 1 t) (iblk m c 2 t) (iblk m c 3 t) (iblk m c 4 t) (lamOf (iblk m c 5 t)) j
      = Ref.weigh (lamOf (m ((c : Thread nD τ).loc main_arg5)))
          (Ref.soft (Ref.score (Ref.query (m ((c : Thread nD τ).loc main_arg0)) b h 0 i) (Ref.key (m ((c : Thread nD τ).loc main_arg1)) (m ((c : Thread nD τ).loc main_arg3)) b h 0)))
          (Ref.soft (Ref.score (Ref.query (m ((c : Thread nD τ).loc main_arg0)) b h 1 i) (Ref.key (m ((c : Thread nD τ).loc main_arg1)) (m ((c : Thread nD τ).loc main_arg3)) b h 1)))
          (fun n => Ref.value (m ((c : Thread nD τ).loc main_arg2)) (m ((c : Thread nD τ).loc main_arg4)) b h n j) := by
  obtain ⟨⟨f0, h0⟩, ⟨f1, h1⟩, ⟨f2, h2⟩, ⟨f3, h3⟩, ⟨f4, h4⟩, ⟨f5, h5⟩⟩ := hm
  obtain ⟨lam, hl⟩ := lam_coe h5
  have el : lamOf (iblk m c 5 t) = (lam : EReal) := by
    rw [← hl]; unfold lamOf; simp only [lp_block m c t]
  have eq : (fun d => (iblk m c 0 t : S2048x128.Idx → EReal) (ix2 i d)) = fun d => ((f0 (ix2 (lrow b i) (col h d)) : ℝ) : EReal) := funext fun d => by
    rw [← h0]; exact q_block m c t i d _ _ (by simp only [lrow, hb]) (by simp only [col, hh])
  rw [el, eq, hl]
  rw [row_eq (fun d => f0 (ix2 (lrow b i) (col h d))) (fun n d => f1 (ix2 (lrow b n) (col h d))) (fun n d => f3 (ix2 (crow b n) (col h d)))
    (fun n d => f2 (ix2 (lrow b n) (col h d))) (fun n d => f4 (ix2 (crow b n) (col h d))) lam (iblk m c 1 t) (iblk m c 2 t) (iblk m c 3 t) (iblk m c 4 t)
    (fun n d => (kl_block m c t n d _ _ (by simp only [lrow, hb]) (by simp only [col, hh])).trans (h1 _))
    (fun n d => (kc_block m c t n d _ _ (by simp only [crow, hb]) (by simp only [col, hh])).trans (h3 _))
    (fun n d => (vl_block m c t n d _ _ (by simp only [lrow, hb]) (by simp only [col, hh])).trans (h2 _))
    (fun n d => (vc_block m c t n d _ _ (by simp only [crow, hb]) (by simp only [col, hh])).trans (h4 _))]
  rw [show Ref.query (m ((c : Thread nD τ).loc main_arg0)) b h 0 i = _ from funext fun d => query_coe h0 b h 0 i d ⟨d, by omega⟩ (by simp),
    show Ref.query (m ((c : Thread nD τ).loc main_arg0)) b h 1 i = _ from funext fun d => query_coe h0 b h 1 i d ⟨64 + d, by omega⟩ (by simp),
    show Ref.key (m ((c : Thread nD τ).loc main_arg1)) (m ((c : Thread nD τ).loc main_arg3)) b h 0 = _ from
      funext fun n => funext fun d => key_coe h1 h3 b h 0 n d ⟨d, by omega⟩ (by simp),
    show Ref.key (m ((c : Thread nD τ).loc main_arg1)) (m ((c : Thread nD τ).loc main_arg3)) b h 1 = _ from
      funext fun n => funext fun d => key_coe h1 h3 b h 1 n d ⟨64 + d, by omega⟩ (by simp),
    show (fun n => Ref.value (m ((c : Thread nD τ).loc main_arg2)) (m ((c : Thread nD τ).loc main_arg4)) b h n j) = _ from
      funext fun n => value_coe h2 h4 b h n j]

variable {m} in
theorem point (c : Dev nD) (hm : Reals m c) (t : Fin cfg0.N) (i : Fin 2048) (j : Fin 128) (I : Fin 65536) (J : Fin 1024) (hI : (I : ℕ) = t.val / 8 * 2048 + i) (hJ : (J : ℕ) = t.val % 8 * 128 + j) :
    outRow (iblk m c 0 t) (iblk m c 1 t) (iblk m c 2 t) (iblk m c 3 t) (iblk m c 4 t) (iblk m c 5 t) (iblk m c 6 t) i j = REF m c (ix2 I J) := by
  unfold outRow REF
  rw [Ref.result_apply, g_block m c t j J hJ]
  have ej : (⟨J % 128, by omega⟩ : Fin 128) = j := Fin.ext (by simp only; omega)
  rw [ej]
  refine congrArg (fun o => rowNorm o _ _) (funext fun x => ?_)
  have ei : (⟨I % 2048, by omega⟩ : Fin 2048) = i := Fin.ext (by simp only; omega)
  unfold Ref.row
  rw [ei]
  exact row_point c hm t _ _ (by simp only; omega) (by simp only; omega) i x

theorem final (hm : ∀ c, Reals m c) (c : Dev nD) : (dats m 0 c).arrAt 7 (cfgs 0).N = REF m c := by
  refine (dats m 0 c).arrAt_eq_of_covers 7 _ covers fun t _ y => ?_
  blk_simp
  rw [after0_7]
  obtain ⟨i, j, rfl⟩ : ∃ (i : Fin 2048) (j : Fin 128), y = ix2 i j := ⟨y 0, y 1, eq_ix2 y⟩
  have ht : t.val < 256 := t.isLt
  have e : ((cfg0.win 7).blk t).view.emb (ix2 i j) = ix2 (⟨t.val / 8 * 2048 + i, by omega⟩ : Fin 65536) (⟨t.val % 8 * 128 + j, by omega⟩ : Fin 1024) := by
    blk_ext [idx7 t]
  exact (out_apply _ _ _ _ _ _ _ _).trans ((point c (hm c) t i j _ _ rfl rfl).trans (congrArg _ e.symm))

end Cert.Attention

end
-- ==== Proof.Attention.Claims.lean ====
/- The five claims of the attention: both programs run and leave their arguments, the kernel's text is unchanged by the
   idealization, and on real arguments its result is the reference's. -/
module

public import proofs.«01_k».proof.Defs
public import proofs.«01_k».proof.Proof.Attention.Final
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Attention

open Idealize.ShloMosaic Idealize.ShloMosaic.TcCoe Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

/-- The reference's run from any memory: it has no semaphore, and its arguments end as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_finite : Cert.quiescent_ReferenceIdeal_pre_finite := fun m ρ _ => frame_reference m ρ trivial

/-- What the precondition says of the six arguments: each element is a real number. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) : Reals m c :=
  ⟨real0 _ _ _ _ _ _ _ (h c).1, real1 _ _ _ _ _ _ _ (h c).2.1, real2 _ _ _ _ _ _ _ (h c).2.2.1,
    real3 _ _ _ _ _ _ _ (h c).2.2.2.1, real4 _ _ _ _ _ _ _ (h c).2.2.2.2.1, real5 _ _ _ _ _ _ _ (h c).2.2.2.2.2⟩

theorem algebraic : Cert.algebraic_KernelIdeal_ReferenceIdeal_pre_finite := by
  intro m ρ m' ρ' hpre hagree
  refine ⟨fun c => REF m c,
    (θ_run Cert.KernelIdeal.defs _ _).mono (fun _ h c => ⟨(h c).1.trans (final m (reals m hpre) c), (h c).2⟩)
      (Cert.KernelIdeal.Value.run_blocks (F := Ideal) m ρ),
    (θ_run Cert.ReferenceIdeal.defs _ _).mono (fun _ h c => ⟨(h c).1.trans ?_, (h c).2⟩)
      (Cert.ReferenceIdeal.Value.run (F := Ideal) m' ρ')⟩
  obtain ⟨h0, h1, h2, h3, h4, h5, h6⟩ := hagree c
  rw [Cert.ReferenceIdeal.Read.val_main_v76_eq, h0, h1, h2, h3, h4, h5, h6]

end Cert.Attention

end
-- ==== Proof.Rows.lean ====
/- The arithmetic of one row of 1024 elements that the projections and the merge share: the product with a matrix, the
   root-mean-square norm, the modulation. -/
module

public import Idealize.ShloMosaic.PureOps.Ideal.Laws
public import Idealize.ShloMosaic.Lib.ValueIdx

@[expose] public section

noncomputable section

namespace Cert.Rows

open Idealize.ShloMosaic

/-- The mean square of a row, a small constant added, under the reciprocal square root. -/
def scale (v : Fin 1024 → EReal) : EReal :=
  Ideal.rsqrt (Ideal.div (∑ x, v x * v x) (Ideal.ofBits .f32 0x44800000#32) + Ideal.ofBits .f32 0x358637BD#32)

/-- The norm of a row, times the gain. -/
def norm (v g : Fin 1024 → EReal) (j : Fin 1024) : EReal := v j * scale v * g j

/-- The norm of a row, scaled and shifted. -/
def modulated (v g sc sh : Fin 1024 → EReal) (j : Fin 1024) : EReal :=
  norm v g j * (Ideal.ofBits .f32 0x3F800000#32 + sc j) + sh j

/-- A row times a matrix. -/
def prod {n : ℕ} (v : Fin 1024 → EReal) (w : Fin 1024 → Fin n → EReal) (j : Fin n) : EReal := ∑ k, v k * w k j

/-- A row, normed, modulated and projected: column `j`. -/
def proj {n : ℕ} (x g sc sh : Fin 1024 → EReal) (w : Fin 1024 → Fin n → EReal) (j : Fin n) : EReal := prod (modulated x g sc sh) w j

theorem prod_congr {n n' : ℕ} {v v' : Fin 1024 → EReal} {w : Fin 1024 → Fin n → EReal} {w' : Fin 1024 → Fin n' → EReal} {j : Fin n} {j' : Fin n'}
    (h : ∀ k, v k = v' k) (h' : ∀ k, w k j = w' k j') : prod v w j = prod v' w' j' :=
  Finset.sum_congr rfl fun k _ => by rw [h k, h' k]

end Cert.Rows

end
-- ==== Proof.Context.Out.lean ====
/- The context projection's body: two blocks of 128 rows, normed and modulated, times blocks of 512 columns; and what
   an element of the four output blocks is. -/
module

public import proofs.«01_k».proof.Proof.Rows
public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Context

open Idealize.ShloMosaic Idealize.ShloMosaic.TcCoe Idealize.SL.Sem
open Cert.Kernel3Ideal Cert.Kernel3Ideal.Gen

/-- A vector of extended reals. -/
abbrev Vc (s : Shape) (φ : FTy) := FVec Ideal s φ

/-- 128 rows, normed and modulated. -/
def modded (v : Vc S128x1024 .f32) (g : Vc S1x1024 .f32) (sc sh : Vc S1x1x1024 .f32) : Vc S128x1024 .bf16 :=
  truncf .bf16 (addf
    (mulf (mulf (mulf v (broadcastTo S128x1024 (rsqrt (addf
        (divf (shapeCast S128x1 (multiReduction .add [1] S128 (mulf v v) 0x00000000#32 reduces_S128x1024_S128 (.inl rfl) rfl) shapeCasts_S128_S128x1)
          (broadcast S128x1 (Scalar.ofBits .f32 0x44800000#32)))
        (broadcast S128x1 (Scalar.ofBits .f32 0x358637BD#32)))) broadcasts_S128x1_S128x1024))
      (broadcastTo S128x1024 (shapeCast S1x1024 g shapeCasts_S1x1024_S1x1024) broadcasts_S1x1024_S128x1024))
      (broadcastTo S128x1024 (addf (broadcast S1x1024 (Scalar.ofBits .f32 0x3F800000#32)) (shapeCast S1x1024 sc shapeCasts_S1x1x1024_S1x1024)) broadcasts_S1x1024_S128x1024))
    (broadcastTo S128x1024 (shapeCast S1x1024 sh shapeCasts_S1x1x1024_S1x1024) broadcasts_S1x1024_S128x1024)) bitsLt_bf16_f32

/-- Times 512 columns. -/
def times (a : Vc S128x1024 .bf16) (w : Vc S1024x512 .bf16) : Vc S128x512 .bf16 :=
  truncf .bf16 (matmul dot_S128x1024_S1024x512_S128x512_1_0_0_1_n_n none a w (constant S128x512 .f32 0x00000000#32)) bitsLt_bf16_f32

theorem modded_apply (v : Vc S128x1024 .f32) (g : Vc S1x1024 .f32) (sc sh : Vc S1x1x1024 .f32) (r : Fin 128) (j : Fin 1024) :
    modded v g sc sh (ix2 r j) = Rows.modulated (fun x => v (ix2 r x)) (fun x => g (ix2 0 x)) (fun x => sc (ix3 0 0 x)) (fun x => sh (ix3 0 0 x)) j := by
  pointwise [modded, Rows.modulated, Rows.norm, Rows.scale]

theorem times_apply (a : Vc S128x1024 .bf16) (w : Vc S1024x512 .bf16) (r : Fin 128) (j : Fin 512) :
    times a w (ix2 r j) = Rows.prod (fun k => a (ix2 r k)) (fun k j => w (ix2 k j)) j := by
  pointwise [times, Rows.prod]

variable (x0 : Vc S256x1024 .f32) (x1 : Vc S1x1024 .f32) (x2 x3 : Vc S1x1x1024 .f32) (x4 : Vc S1024x8192 .bf16)

/-- Row `i` of a block, projected to column `J`. -/
def projOut (i : Fin 256) (J : Fin 8192) : EReal :=
  Rows.proj (fun k => x0 (ix2 i k)) (fun k => x1 (ix2 0 k)) (fun k => x2 (ix3 0 0 k)) (fun k => x3 (ix3 0 0 k)) (fun k j => x4 (ix2 k j)) J

/-- Rows from `o` on, and columns from `p` on, lie within their arrays. -/
abbrev RowsIn (o : ℕ) : Prop := ∀ a, (![o, 0] : Fin 2 → ℕ) a + S128x1024.size a ≤ S256x1024.size a
abbrev ColsIn (p : ℕ) : Prop := ∀ a, (![0, p] : Fin 2 → ℕ) a + S1024x512.size a ≤ S1024x8192.size a

theorem tile_ld (o p : ℕ) (ho : RowsIn o) (hp : ColsIn p) (x : S128x512.Idx) (i : Fin 256) (J : Fin 8192) (hi : (i : ℕ) = o + x 0) (hJ : (J : ℕ) = p + x 1) :
    (times (modded (View.ld (Val := Elt Ideal) (e' := .f32) x0 (Rect.unit (s := S256x1024) ![o, 0] S128x1024.size ho))
        (View.ld (Val := Elt Ideal) (e' := .f32) x1 r0_1) (View.ld (Val := Elt Ideal) (e' := .f32) x2 r0_2) (View.ld (Val := Elt Ideal) (e' := .f32) x3 r0_2))
      (View.ld (Val := Elt Ideal) (e' := .bf16) x4 (Rect.unit (s := S1024x8192) ![0, p] S1024x512.size hp)) x : EReal) = projOut x0 x1 x2 x3 x4 i J := by
  obtain ⟨r, j, rfl⟩ : ∃ (r : Fin 128) (j : Fin 512), x = ix2 r j := ⟨x 0, x 1, eq_ix2 x⟩
  have z : (![0, 0] : Fin 2 → ℕ) = fun _ => 0 := by decide
  have z3 : (![0, 0, 0] : Fin 3 → ℕ) = fun _ => 0 := by decide
  have e1 : View.ld (Val := Elt Ideal) (e' := .f32) x1 r0_1 = x1 := View.ld_unit_zero z _ _
  have e2 : View.ld (Val := Elt Ideal) (e' := .f32) x2 r0_2 = x2 := View.ld_unit_zero z3 _ _
  have e3 : View.ld (Val := Elt Ideal) (e' := .f32) x3 r0_2 = x3 := View.ld_unit_zero z3 _ _
  rw [times_apply, e1, e2, e3, projOut, Rows.proj]
  refine Rows.prod_congr (fun k => ?_) fun k => ?_
  · rw [modded_apply]
    refine congrArg (fun v => Rows.modulated v _ _ _ k) (funext fun l => ?_)
    exact View.ld_unit_apply_of _ _ _ _ _ _ fun a => match a with
      | ⟨0, _⟩ => hi
      | ⟨1, _⟩ => (Nat.zero_add _).symm
  · exact View.ld_unit_apply_of _ _ _ _ _ _ fun a => match a with
      | ⟨0, _⟩ => (Nat.zero_add _).symm
      | ⟨1, _⟩ => hJ

theorem out5 (y : S256x512.Idx) : (out0_5 (F := Ideal) x0 x1 x2 x3 x4 y : EReal) = projOut x0 x1 x2 x3 x4 (y 0) ⟨512 + y 1, by have := (y 1).isLt; change (y 1 : ℕ) < 512 at this; omega⟩ := by
  unfold out0_5
  canon_tiles x h
  all_goals exact tile_ld x0 x1 x2 x3 x4 _ _ _ _ x (y 0) _ (by simpa using h0) (by simp at h1 ⊢; omega)

theorem out6 (y : S256x1024.Idx) : (out0_6 (F := Ideal) x0 x1 x2 x3 x4 y : EReal) = projOut x0 x1 x2 x3 x4 (y 0) ⟨1024 + y 1, by have := (y 1).isLt; change (y 1 : ℕ) < 1024 at this; omega⟩ := by
  unfold out0_6
  canon_tiles x h
  all_goals exact tile_ld x0 x1 x2 x3 x4 _ _ _ _ x (y 0) _ (by simpa using h0) (by simp at h1 ⊢; omega)

theorem out7 (y : S256x1024.Idx) : (out0_7 (F := Ideal) x0 x1 x2 x3 x4 y : EReal) = projOut x0 x1 x2 x3 x4 (y 0) ⟨4096 + y 1, by have := (y 1).isLt; change (y 1 : ℕ) < 1024 at this; omega⟩ := by
  unfold out0_7
  canon_tiles x h
  all_goals exact tile_ld x0 x1 x2 x3 x4 _ _ _ _ x (y 0) _ (by simpa using h0) (by simp at h1 ⊢; omega)

theorem out8 (y : S256x1024.Idx) : (out0_8 (F := Ideal) x0 x1 x2 x3 x4 y : EReal) = projOut x0 x1 x2 x3 x4 (y 0) ⟨5120 + y 1, by have := (y 1).isLt; change (y 1 : ℕ) < 1024 at this; omega⟩ := by
  unfold out0_8
  canon_tiles x h
  all_goals exact tile_ld x0 x1 x2 x3 x4 _ _ _ _ x (y 0) _ (by simpa using h0) (by simp at h1 ⊢; omega)

end Cert.Context

end
-- ==== Proof.Context.Ref.lean ====
/- The reference's context projection read at an index. -/
module

public import proofs.«01_k».proof.Proof.Rows
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Context.Ref

open Idealize.ShloMosaic Idealize.ShloMosaic.TcCoe Idealize.SL.Sem
open Cert.Reference3Ideal Cert.Reference3Ideal.Gen Cert.Reference3Ideal.Read

variable (x0 : FVec Ideal S8192x1024 .f32) (x1 : FVec Ideal S1024 .f32) (x2 x3 : FVec Ideal S1x1x1024 .f32) (x4 : FVec Ideal S1024x8192 .bf16)

/-- Row `t` of sequence `b`, and the sequence and the row within it of row `i`. -/
def at_ (b : Fin 32) (t : Fin 256) : Fin 8192 := ⟨b * 256 + t, by omega⟩
def row (b : Fin 32) (t : Fin 256) (k : Fin 1024) : EReal := x0 (ix2 (at_ b t) k)
def seq (i : Fin 8192) : Fin 32 := ⟨i / 256, by omega⟩
def tok (i : Fin 8192) : Fin 256 := ⟨i % 256, by omega⟩

/-- Row `t` of sequence `b`, projected to column `J`. -/
def proj (b : Fin 32) (t : Fin 256) (J : Fin 8192) : EReal :=
  Rows.proj (row x0 b t) (fun k => x1 (ix1 k)) (fun k => x2 (ix3 0 0 k)) (fun k => x3 (ix3 0 0 k)) (fun k j => x4 (ix2 k j)) J

theorem x_apply (b : Fin 32) (t : Fin 256) (k : Fin 1024) : val_main_v0 (F := Ideal) x0 (ix3 b t k) = row x0 b t k := by
  pointwise [val_main_v0, row, at_]

theorem scale_apply (b : Fin 32) (t : Fin 256) : val_main_v8 (F := Ideal) x0 (ix3 b t 0) = Rows.scale (row x0 b t) := by
  rw [val_main_v8_apply, val_main_v7_apply, val_main_v5_apply, val_main_v3_apply, val_main_v6_apply, val_main_v4_apply, val_main_v2_apply]
  refine congrArg (fun s => Ideal.rsqrt (Ideal.div s _ + _)) ?_
  refine ((congrArg (· + _) Ideal.ofBits_zero_f32).trans (zero_add _)).trans (Finset.sum_congr rfl fun k _ => ?_)
  rw [val_main_v1_apply, show idx_main_v2 (idx_main_v3 (ix3 b t 0)) k = ix3 b t k by funext c; fin_cases c <;> rfl, x_apply]
  rfl

theorem modulated_apply (b : Fin 32) (t : Fin 256) (k : Fin 1024) :
    val_main_v19 (F := Ideal) x0 x1 x2 x3 (ix3 b t k) = Rows.modulated (row x0 b t) (fun k => x1 (ix1 k)) (fun k => x2 (ix3 0 0 k)) (fun k => x3 (ix3 0 0 k)) k := by
  rw [val_main_v19_apply, val_main_v17_apply, val_main_v18_apply, val_main_v16_apply, val_main_v15_apply, val_main_v14_apply, val_main_v13_apply, val_main_v12_apply,
    val_main_v11_apply, val_main_v10_apply, val_main_v9_apply, x_apply, show idx_main_v9 (ix3 b t k) = ix3 b t 0 by funext c; fin_cases c <;> rfl, scale_apply]
  rw [show idx_main_v18 (ix3 b t k) = ix3 0 0 k by funext c; fin_cases c <;> rfl, show idx_main_v16 (ix3 b t k) = ix3 0 0 k by funext c; fin_cases c <;> rfl,
    show idx_main_v11 (idx_main_v12 (ix3 b t k)) = ix1 k by funext c; fin_cases c <;> rfl]
  rfl

theorem proj_apply (b : Fin 32) (t : Fin 256) (J : Fin 8192) : val_main_v21 (F := Ideal) x0 x1 x2 x3 x4 (ix3 b t J) = proj x0 x1 x2 x3 x4 b t J := by
  rw [val_main_v21_apply]
  show _ = ∑ k, Rows.modulated (row x0 b t) (fun k => x1 (ix1 k)) (fun k => x2 (ix3 0 0 k)) (fun k => x3 (ix3 0 0 k)) k * x4 (ix2 k J)
  refine Finset.sum_congr rfl fun k _ => ?_
  have e : lidx_main_v21 (ix3 b t J) k = ix3 b t k := by funext c; fin_cases c <;> rfl
  have e' : ridx_main_v21 (ix3 b t J) k = ix2 k J := by funext c; fin_cases c <;> rfl
  rw [e, e', modulated_apply]
  rfl

theorem result0 (i : Fin 8192) (j : Fin 512) (J : Fin 8192) (hJ : (J : ℕ) = 512 + j) :
    val_main_v32 (F := Ideal) x0 x1 x2 x3 x4 (ix2 i j) = proj x0 x1 x2 x3 x4 (seq i) (tok i) J := by
  have e : idx_main_v23 (idx_main_v31 (ix2 i j)) = ix3 (seq i) (tok i) J := by
    funext c; fin_cases c <;> apply Fin.ext <;> simp [seq, tok, hJ] <;> omega
  rw [val_main_v32_apply, val_main_v31_apply, val_main_v23_apply, e, proj_apply]
  rfl

theorem result1 (i : Fin 8192) (j : Fin 1024) (J : Fin 8192) (hJ : (J : ℕ) = 1024 + j) :
    val_main_v34 (F := Ideal) x0 x1 x2 x3 x4 (ix2 i j) = proj x0 x1 x2 x3 x4 (seq i) (tok i) J := by
  have e : idx_main_v24 (idx_main_v33 (ix2 i j)) = ix3 (seq i) (tok i) J := by
    funext c; fin_cases c <;> apply Fin.ext <;> simp [seq, tok, hJ] <;> omega
  rw [val_main_v34_apply, val_main_v33_apply, val_main_v24_apply, e, proj_apply]
  rfl

theorem result2 (i : Fin 8192) (j : Fin 1024) (J : Fin 8192) (hJ : (J : ℕ) = 4096 + j) :
    val_main_v36 (F := Ideal) x0 x1 x2 x3 x4 (ix2 i j) = proj x0 x1 x2 x3 x4 (seq i) (tok i) J := by
  have e : idx_main_v27 (idx_main_v35 (ix2 i j)) = ix3 (seq i) (tok i) J := by
    funext c; fin_cases c <;> apply Fin.ext <;> simp [seq, tok, hJ] <;> omega
  rw [val_main_v36_apply, val_main_v35_apply, val_main_v27_apply, e, proj_apply]
  rfl

theorem result3 (i : Fin 8192) (j : Fin 1024) (J : Fin 8192) (hJ : (J : ℕ) = 5120 + j) :
    val_main_v38 (F := Ideal) x0 x1 x2 x3 x4 (ix2 i j) = proj x0 x1 x2 x3 x4 (seq i) (tok i) J := by
  have e : idx_main_v28 (idx_main_v37 (ix2 i j)) = ix3 (seq i) (tok i) J := by
    funext c; fin_cases c <;> apply Fin.ext <;> simp [seq, tok, hJ] <;> omega
  rw [val_main_v38_apply, val_main_v37_apply, val_main_v28_apply, e, proj_apply]
  rfl

end Cert.Context.Ref

end
-- ==== Proof.Context.Final.lean ====
/- The context projection's four output arrays are the reference's results: point `t` computes rows `256 t` on. -/
module

public import proofs.«01_k».proof.Proof.Context.Out
public import proofs.«01_k».proof.Proof.Context.Ref
public import proofs.«01_k».proof.Proof.Gen.Kernel3Ideal.Value

@[expose] public section

set_option maxRecDepth 16384

noncomputable section

namespace Cert.Context

open Idealize.ShloMosaic Idealize.ShloMosaic.TcCoe Idealize.SL.Sem
open Cert.Kernel3Ideal Cert.Kernel3Ideal.Gen
open Idealize.ShloMosaic.Pipeline (Dat)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem covers5 : ((cfgs 0).win 5).Covers := by decide +kernel
theorem idx6 : ∀ t : Fin cfg0.N, win0_6.index t = ![t.val, 0] := (by decide +kernel : ∀ t : Fin grid0.N, _)
theorem covers6 : ((cfgs 0).win 6).Covers := by decide +kernel
theorem idx7 : ∀ t : Fin cfg0.N, win0_7.index t = ![t.val, 0] := (by decide +kernel : ∀ t : Fin grid0.N, _)
theorem covers7 : ((cfgs 0).win 7).Covers := by decide +kernel
theorem idx8 : ∀ t : Fin cfg0.N, win0_8.index t = ![t.val, 0] := (by decide +kernel : ∀ t : Fin grid0.N, _)
theorem covers8 : ((cfgs 0).win 8).Covers := by decide +kernel

variable (m : (ℓ : Loc nD τ sig) → Buf (Elt Ideal) ℓ) (c : Dev nD) (t : Fin cfg0.N)

/-- Argument `b` as launched. -/
abbrev arg (b : Ref sig .tc) := m ((c : Thread nD τ).loc b)

theorem blk0 (i : Fin 256) (k : Fin 1024) (I : Fin 8192) (hI : (I : ℕ) = t.val * 256 + i) :
    (iblk m c 0 t : S256x1024.Idx → EReal) (ix2 i k) = arg m c main_arg0 (ix2 I k) := by blk_point [iblk, V, idx0 t]
theorem blk1 (k : Fin 1024) : (iblk m c 1 t : S1x1024.Idx → EReal) (ix2 0 k) = arg m c main_arg1 (ix1 k) := by blk_point [iblk, V, idx1 t]
theorem blk2 (k : Fin 1024) : (iblk m c 2 t : S1x1x1024.Idx → EReal) (ix3 0 0 k) = arg m c main_arg2 (ix3 0 0 k) := by blk_point [iblk, V, idx2 t]
theorem blk3 (k : Fin 1024) : (iblk m c 3 t : S1x1x1024.Idx → EReal) (ix3 0 0 k) = arg m c main_arg3 (ix3 0 0 k) := by blk_point [iblk, V, idx3 t]
theorem blk4 (k : Fin 1024) (j : Fin 8192) : (iblk m c 4 t : S1024x8192.Idx → EReal) (ix2 k j) = arg m c main_arg4 (ix2 k j) := by blk_point [iblk, V, idx4 t]

/-- Row `i` of block `t`, projected, is the reference's. -/
theorem proj_point (i : Fin 256) (I : Fin 8192) (hI : (I : ℕ) = t.val * 256 + i) (J : Fin 8192) :
    projOut (iblk m c 0 t) (iblk m c 1 t) (iblk m c 2 t) (iblk m c 3 t) (iblk m c 4 t) i J
      = Ref.proj (arg m c main_arg0) (arg m c main_arg1) (arg m c main_arg2) (arg m c main_arg3) (arg m c main_arg4) (Ref.seq I) (Ref.tok I) J := by
  have hi : ((Ref.at_ (Ref.seq I) (Ref.tok I) : Fin 8192) : ℕ) = t.val * 256 + i := by simp only [Ref.at_, Ref.seq, Ref.tok]; omega
  unfold projOut Ref.proj
  congr 1
  · exact funext fun k => blk0 m c t i k _ hi
  · exact funext fun k => blk1 m c t k
  · exact funext fun k => blk2 m c t k
  · exact funext fun k => blk3 m c t k
  · exact funext fun k => funext fun l => blk4 m c t k l

abbrev REF0 : FVec Ideal S8192x512 .bf16 :=
  Cert.Reference3Ideal.Read.val_main_v32 (F := Ideal) (arg m c main_arg0) (arg m c main_arg1) (arg m c main_arg2) (arg m c main_arg3) (arg m c main_arg4)

theorem final0 : (dats m 0 c).arrAt 5 (cfgs 0).N = REF0 m c := by
  refine (dats m 0 c).arrAt_eq_of_covers 5 _ covers5 fun t _ y => ?_
  blk_simp
  rw [after0_5]
  obtain ⟨i, j, rfl⟩ : ∃ (i : Fin 256) (j : Fin 512), y = ix2 i j := ⟨y 0, y 1, eq_ix2 y⟩
  have ht : t.val < 32 := t.isLt
  have e : ((cfg0.win 5).blk t).view.emb (ix2 i j) = ix2 (⟨t.val * 256 + i, by omega⟩ : Fin 8192) j := by
    blk_ext [idx5 t]
  exact (out5 _ _ _ _ _ _).trans ((proj_point m c t i _ rfl _).trans ((Ref.result0 _ _ _ _ _ _ _ _ rfl).symm.trans (congrArg (REF0 m c) e.symm)))

abbrev REF1 : FVec Ideal S8192x1024 .bf16 :=
  Cert.Reference3Ideal.Read.val_main_v34 (F := Ideal) (arg m c main_arg0) (arg m c main_arg1) (arg m c main_arg2) (arg m c main_arg3) (arg m c main_arg4)

theorem final1 : (dats m 0 c).arrAt 6 (cfgs 0).N = REF1 m c := by
  refine (dats m 0 c).arrAt_eq_of_covers 6 _ covers6 fun t _ y => ?_
  blk_simp
  rw [after0_6]
  obtain ⟨i, j, rfl⟩ : ∃ (i : Fin 256) (j : Fin 1024), y = ix2 i j := ⟨y 0, y 1, eq_ix2 y⟩
  have ht : t.val < 32 := t.isLt
  have e : ((cfg0.win 6).blk t).view.emb (ix2 i j) = ix2 (⟨t.val * 256 + i, by omega⟩ : Fin 8192) j := by
    blk_ext [idx6 t]
  exact (out6 _ _ _ _ _ _).trans ((proj_point m c t i _ rfl _).trans ((Ref.result1 _ _ _ _ _ _ _ _ rfl).symm.trans (congrArg (REF1 m c) e.symm)))

abbrev REF2 : FVec Ideal S8192x1024 .bf16 :=
  Cert.Reference3Ideal.Read.val_main_v36 (F := Ideal) (arg m c main_arg0) (arg m c main_arg1) (arg m c main_arg2) (arg m c main_arg3) (arg m c main_arg4)

theorem final2 : (dats m 0 c).arrAt 7 (cfgs 0).N = REF2 m c := by
  refine (dats m 0 c).arrAt_eq_of_covers 7 _ covers7 fun t _ y => ?_
  blk_simp
  rw [after0_7]
  obtain ⟨i, j, rfl⟩ : ∃ (i : Fin 256) (j : Fin 1024), y = ix2 i j := ⟨y 0, y 1, eq_ix2 y⟩
  have ht : t.val < 32 := t.isLt
  have e : ((cfg0.win 7).blk t).view.emb (ix2 i j) = ix2 (⟨t.val * 256 + i, by omega⟩ : Fin 8192) j := by
    blk_ext [idx7 t]
  exact (out7 _ _ _ _ _ _).trans ((proj_point m c t i _ rfl _).trans ((Ref.result2 _ _ _ _ _ _ _ _ rfl).symm.trans (congrArg (REF2 m c) e.symm)))

abbrev REF3 : FVec Ideal S8192x1024 .bf16 :=
  Cert.Reference3Ideal.Read.val_main_v38 (F := Ideal) (arg m c main_arg0) (arg m c main_arg1) (arg m c main_arg2) (arg m c main_arg3) (arg m c main_arg4)

theorem final3 : (dats m 0 c).arrAt 8 (cfgs 0).N = REF3 m c := by
  refine (dats m 0 c).arrAt_eq_of_covers 8 _ covers8 fun t _ y => ?_
  blk_simp
  rw [after0_8]
  obtain ⟨i, j, rfl⟩ : ∃ (i : Fin 256) (j : Fin 1024), y = ix2 i j := ⟨y 0, y 1, eq_ix2 y⟩
  have ht : t.val < 32 := t.isLt
  have e : ((cfg0.win 8).blk t).view.emb (ix2 i j) = ix2 (⟨t.val * 256 + i, by omega⟩ : Fin 8192) j := by
    blk_ext [idx8 t]
  exact (out8 _ _ _ _ _ _).trans ((proj_point m c t i _ rfl _).trans ((Ref.result3 _ _ _ _ _ _ _ _ rfl).symm.trans (congrArg (REF3 m c) e.symm)))

end Cert.Context

end
-- ==== Proof.Context.Claims.lean ====
/- The five claims of the context projection: both programs run and leave their arguments, the kernel's text is unchanged by the
   idealization, and its four results are the reference's. -/
module

public import proofs.«01_k».proof.Defs
public import proofs.«01_k».proof.Proof.Context.Final
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Context

open Idealize.ShloMosaic Idealize.ShloMosaic.TcCoe Idealize.SL.Sem

theorem frame_kernel : Cert.quiescent_Kernel3 := fun m ρ _ => Cert.Kernel3.Gen.frame m ρ
theorem frame_ideal : Cert.quiescent_Kernel3Ideal := fun m ρ _ => Cert.Kernel3Ideal.Gen.frame m ρ

/-- The reference's run from any memory: it has no semaphore, and its arguments end as they were. -/
theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => REF0 m c, fun c => REF1 m c, fun c => REF2 m c, fun c => REF3 m c,
    (θ_run Cert.Kernel3Ideal.defs _ _).mono (fun _ h c => ⟨(h c).1.trans (final0 m c), (h c).2.1.trans (final1 m c), (h c).2.2.1.trans (final2 m c),
        (h c).2.2.2.1.trans (final3 m c), (h c).2.2.2.2⟩)
      (Cert.Kernel3Ideal.Value.run_blocks (F := Ideal) m ρ),
    (θ_run Cert.Reference3Ideal.defs _ _).mono (fun _ h c => ⟨(h c).1.trans ?_, (h c).2.1.trans ?_, (h c).2.2.1.trans ?_, (h c).2.2.2.1.trans ?_, (h c).2.2.2.2⟩)
      (Cert.Reference3Ideal.Value.run (F := Ideal) m' ρ')⟩
  all_goals obtain ⟨h0, h1, h2, h3, h4⟩ := hagree c
  · rw [Cert.Reference3Ideal.Read.val_main_v32_eq, h0, h1, h2, h3, h4]
  · rw [Cert.Reference3Ideal.Read.val_main_v34_eq, h0, h1, h2, h3, h4]
  · rw [Cert.Reference3Ideal.Read.val_main_v36_eq, h0, h1, h2, h3, h4]
  · rw [Cert.Reference3Ideal.Read.val_main_v38_eq, h0, h1, h2, h3, h4]

end Cert.Context

end
-- ==== Proof.Merge.Body.lean ====
/- The merge kernel's body: four blocks of 256 rows, each the one computation `sum` and `ffn` below; and what both are in
   a row. -/
module

public import proofs.«01_k».proof.Proof.Rows
public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Merge

open Idealize.ShloMosaic Idealize.ShloMosaic.TcCoe Idealize.SL.Sem
open Cert.Kernel4Ideal Cert.Kernel4Ideal.Gen

/-- A vector of extended reals. -/
abbrev Vc (s : Shape) (φ : FTy) := FVec Ideal s φ

/-- 256 rows times a matrix. -/
def times (a : Vc S256x1024 .bf16) (w : Vc S1024x1024 .bf16) : Vc S256x1024 .f32 :=
  matmul dot_S256x1024_S1024x1024_S256x1024_1_0_0_1_n_n none a (shapeCast S1024x1024 w shapeCasts_S1024x1024_S1024x1024)
    (constant S256x1024 .f32 0x00000000#32)

/-- The gated sum of the two branches, projected. -/
def mixed (zr zd gr gd : Vc S256x1024 .bf16) (wr wd wo : Vc S1024x1024 .bf16) : Vc S256x1024 .f32 :=
  times (truncf .bf16 (addf (mulf (extf .f32 gr bitsLt_bf16_f32) (times zr wr)) (mulf (extf .f32 gd bitsLt_bf16_f32) (times zd wd)))
    bitsLt_bf16_f32) wo

/-- The norm of 256 rows. -/
def normed (v : Vc S256x1024 .f32) (g : Vc S1x1024 .f32) : Vc S256x1024 .f32 :=
  mulf (mulf v (broadcastTo S256x1024 (rsqrt (addf
      (divf (shapeCast S256x1 (multiReduction .add [1] S256 (mulf v v) 0x00000000#32 reduces_S256x1024_S256 (.inl rfl) rfl) shapeCasts_S256_S256x1)
        (broadcast S256x1 (Scalar.ofBits .f32 0x44800000#32)))
      (broadcast S256x1 (Scalar.ofBits .f32 0x358637BD#32)))) broadcasts_S256x1_S256x1024))
    (broadcastTo S256x1024 (shapeCast S1x1024 g shapeCasts_S1x1024_S1x1024) broadcasts_S1x1024_S256x1024)

/-- The residual plus the gated norm. -/
def residual (x v : Vc S256x1024 .f32) (ga : Vc S1x1x1024 .f32) : Vc S256x1024 .f32 :=
  addf x (mulf (broadcastTo S256x1024 (shapeCast S1x1024 ga shapeCasts_S1x1x1024_S1x1024) broadcasts_S1x1024_S256x1024) v)

/-- 256 rows, scaled and shifted. -/
def shifted (v : Vc S256x1024 .f32) (sc sh : Vc S1x1x1024 .f32) : Vc S256x1024 .bf16 :=
  truncf .bf16 (addf (mulf v (broadcastTo S256x1024 (addf (broadcast S1x1024 (Scalar.ofBits .f32 0x3F800000#32))
      (shapeCast S1x1024 sc shapeCasts_S1x1x1024_S1x1024)) broadcasts_S1x1024_S256x1024))
    (broadcastTo S256x1024 (shapeCast S1x1024 sh shapeCasts_S1x1x1024_S1x1024) broadcasts_S1x1024_S256x1024)) bitsLt_bf16_f32

/-- The two results of 256 rows. -/
def sum (x : Vc S256x1024 .f32) (zr zd gr gd : Vc S256x1024 .bf16) (wr wd wo : Vc S1024x1024 .bf16) (pm : Vc S1x1024 .f32) (ga : Vc S1x1x1024 .f32) : Vc S256x1024 .f32 :=
  residual x (normed (mixed zr zd gr gd wr wd wo) pm) ga
def ffn (x1 : Vc S256x1024 .f32) (pf : Vc S1x1024 .f32) (sc sh : Vc S1x1x1024 .f32) : Vc S256x1024 .bf16 :=
  shifted (normed x1 pf) sc sh

/-- A row of the mixed branches, and of the sum. -/
def mixRow (zr zd gr gd : Fin 1024 → EReal) (wr wd wo : Fin 1024 → Fin 1024 → EReal) : Fin 1024 → EReal :=
  Rows.prod (fun k => gr k * Rows.prod zr wr k + gd k * Rows.prod zd wd k) wo
def sumRow (x zr zd gr gd : Fin 1024 → EReal) (wr wd wo : Fin 1024 → Fin 1024 → EReal) (pm ga : Fin 1024 → EReal) (j : Fin 1024) : EReal :=
  x j + ga j * Rows.norm (mixRow zr zd gr gd wr wd wo) pm j

theorem times_apply (a : Vc S256x1024 .bf16) (w : Vc S1024x1024 .bf16) (r : Fin 256) (j : Fin 1024) :
    times a w (ix2 r j) = Rows.prod (fun k => a (ix2 r k)) (fun k j => w (ix2 k j)) j := by
  pointwise [times, Rows.prod]

theorem mixed_apply (zr zd gr gd : Vc S256x1024 .bf16) (wr wd wo : Vc S1024x1024 .bf16) (r : Fin 256) (j : Fin 1024) :
    mixed zr zd gr gd wr wd wo (ix2 r j) = mixRow (fun k => zr (ix2 r k)) (fun k => zd (ix2 r k)) (fun k => gr (ix2 r k)) (fun k => gd (ix2 r k))
      (fun k j => wr (ix2 k j)) (fun k j => wd (ix2 k j)) (fun k j => wo (ix2 k j)) j := by
  unfold mixed mixRow
  rw [times_apply]
  refine congrArg (fun v => Rows.prod v _ j) (funext fun k => ?_)
  rw [← times_apply, ← times_apply]
  generalize times zr wr = p
  generalize times zd wd = q
  rfl

theorem normed_apply (v : Vc S256x1024 .f32) (g : Vc S1x1024 .f32) (r : Fin 256) (j : Fin 1024) :
    normed v g (ix2 r j) = Rows.norm (fun x => v (ix2 r x)) (fun x => g (ix2 0 x)) j := by
  pointwise [normed, Rows.norm, Rows.scale]

theorem residual_apply (x v : Vc S256x1024 .f32) (ga : Vc S1x1x1024 .f32) (r : Fin 256) (j : Fin 1024) :
    residual x v ga (ix2 r j) = x (ix2 r j) + ga (ix3 0 0 j) * v (ix2 r j) := by
  pointwise [residual]

theorem shifted_apply (v : Vc S256x1024 .f32) (sc sh : Vc S1x1x1024 .f32) (r : Fin 256) (j : Fin 1024) :
    shifted v sc sh (ix2 r j) = v (ix2 r j) * (Ideal.ofBits .f32 0x3F800000#32 + sc (ix3 0 0 j)) + sh (ix3 0 0 j) := by
  pointwise [shifted]

theorem sum_apply (x : Vc S256x1024 .f32) (zr zd gr gd : Vc S256x1024 .bf16) (wr wd wo : Vc S1024x1024 .bf16) (pm : Vc S1x1024 .f32) (ga : Vc S1x1x1024 .f32) (r : Fin 256) (j : Fin 1024) :
    sum x zr zd gr gd wr wd wo pm ga (ix2 r j) = sumRow (fun k => x (ix2 r k)) (fun k => zr (ix2 r k)) (fun k => zd (ix2 r k)) (fun k => gr (ix2 r k)) (fun k => gd (ix2 r k))
      (fun k j => wr (ix2 k j)) (fun k j => wd (ix2 k j)) (fun k j => wo (ix2 k j)) (fun k => pm (ix2 0 k)) (fun k => ga (ix3 0 0 k)) j := by
  unfold sum sumRow
  rw [residual_apply, normed_apply]
  simp only [mixed_apply]

theorem ffn_apply (x1 : Vc S256x1024 .f32) (pf : Vc S1x1024 .f32) (sc sh : Vc S1x1x1024 .f32) (r : Fin 256) (j : Fin 1024) :
    ffn x1 pf sc sh (ix2 r j) = Rows.modulated (fun x => x1 (ix2 r x)) (fun x => pf (ix2 0 x)) (fun x => sc (ix3 0 0 x)) (fun x => sh (ix3 0 0 x)) j := by
  unfold ffn Rows.modulated
  rw [shifted_apply, normed_apply]

end Cert.Merge

end
-- ==== Proof.Merge.Out.lean ====
/- The merge kernel's two output blocks: each row is the same function of that row of the operands and of the matrices. -/
module

public import proofs.«01_k».proof.Proof.Merge.Body

@[expose] public section

set_option maxRecDepth 16384

noncomputable section

namespace Cert.Merge

open Idealize.ShloMosaic Idealize.ShloMosaic.TcCoe Idealize.SL.Sem
open Cert.Kernel4Ideal Cert.Kernel4Ideal.Gen

variable (x0 : Vc S1024x1024 .f32) (x1 x2 x3 x4 x5 x6 x7 : Vc S1024x1024 .bf16) (x8 x9 : Vc S1x1024 .f32) (x10 x11 x12 : Vc S1x1x1024 .f32)

/-- Row `i` of the first output block, from the blocks. -/
def sumOut (i : Fin 1024) : Fin 1024 → EReal :=
  sumRow (fun k => x0 (ix2 i k)) (fun k => x1 (ix2 i k)) (fun k => x2 (ix2 i k)) (fun k => x3 (ix2 i k)) (fun k => x4 (ix2 i k))
    (fun k j => x5 (ix2 k j)) (fun k j => x6 (ix2 k j)) (fun k j => x7 (ix2 k j)) (fun k => x8 (ix2 0 k)) (fun k => x10 (ix3 0 0 k))

/-- Row `i` of the second. -/
def ffnOut (i : Fin 1024) : Fin 1024 → EReal :=
  Rows.modulated (sumOut x0 x1 x2 x3 x4 x5 x6 x7 x8 x10 i) (fun k => x9 (ix2 0 k)) (fun k => x12 (ix3 0 0 k)) (fun k => x11 (ix3 0 0 k))

/-- The 256 rows from row `o` on: they lie within the block. -/
abbrev Within (o : ℕ) : Prop := ∀ a, (![o, 0] : Fin 2 → ℕ) a + S256x1024.size a ≤ S1024x1024.size a

abbrev rows (o : ℕ) (inb : Within o) : Rect S1024x1024 := Rect.unit (s := S1024x1024) ![o, 0] S256x1024.size inb

theorem rows_apply {e : EltTy} (x : Vec Ideal S1024x1024 e) (o : ℕ) (inb : Within o) (r : Fin 256) (i : Fin 1024) (h : (i : ℕ) = o + r) (k : Fin 1024) :
    View.ld (Val := Elt Ideal) (e' := e) x (rows o inb) (ix2 r k) = x (ix2 i k) :=
  View.ld_unit_apply_of _ _ _ _ _ _ fun a => match a with
    | ⟨0, _⟩ => h
    | ⟨1, _⟩ => (Nat.zero_add _).symm

/-- The sum of the 256 rows from row `o` on. -/
abbrev tile (o : ℕ) (inb : Within o) : Vc S256x1024 .f32 :=
  sum (View.ld (Val := Elt Ideal) (e' := .f32) x0 (rows o inb)) (View.ld (Val := Elt Ideal) (e' := .bf16) x1 (rows o inb))
    (View.ld (Val := Elt Ideal) (e' := .bf16) x2 (rows o inb)) (View.ld (Val := Elt Ideal) (e' := .bf16) x3 (rows o inb))
    (View.ld (Val := Elt Ideal) (e' := .bf16) x4 (rows o inb)) (View.ld (Val := Elt Ideal) (e' := .bf16) x5 r0_1)
    (View.ld (Val := Elt Ideal) (e' := .bf16) x6 r0_1) (View.ld (Val := Elt Ideal) (e' := .bf16) x7 r0_1)
    (View.ld (Val := Elt Ideal) (e' := .f32) x8 r0_2) (View.ld (Val := Elt Ideal) (e' := .f32) x10 r0_3)

theorem tile_at (o : ℕ) (inb : Within o) (r : Fin 256) (i : Fin 1024) (h : (i : ℕ) = o + r) (j : Fin 1024) :
    tile x0 x1 x2 x3 x4 x5 x6 x7 x8 x10 o inb (ix2 r j) = sumOut x0 x1 x2 x3 x4 x5 x6 x7 x8 x10 i j := by
  have z : (![0, 0] : Fin 2 → ℕ) = fun _ => 0 := by decide
  have z3 : (![0, 0, 0] : Fin 3 → ℕ) = fun _ => 0 := by decide
  have e5 : View.ld (Val := Elt Ideal) (e' := .bf16) x5 r0_1 = x5 := View.ld_unit_zero z _ _
  have e6 : View.ld (Val := Elt Ideal) (e' := .bf16) x6 r0_1 = x6 := View.ld_unit_zero z _ _
  have e7 : View.ld (Val := Elt Ideal) (e' := .bf16) x7 r0_1 = x7 := View.ld_unit_zero z _ _
  have e8 : View.ld (Val := Elt Ideal) (e' := .f32) x8 r0_2 = x8 := View.ld_unit_zero z _ _
  have e10 : View.ld (Val := Elt Ideal) (e' := .f32) x10 r0_3 = x10 := View.ld_unit_zero z3 _ _
  unfold tile
  rw [sum_apply, e5, e6, e7, e8, e10]
  unfold sumOut
  congr 1
  all_goals exact funext fun k => rows_apply _ o inb r i h k

theorem tile_ld (o : ℕ) (inb : Within o) (x : S256x1024.Idx) (y : S1024x1024.Idx) (h0 : (y 0 : ℕ) = o + x 0) (h1 : (y 1 : ℕ) = x 1) :
    (tile x0 x1 x2 x3 x4 x5 x6 x7 x8 x10 o inb x : EReal) = sumOut x0 x1 x2 x3 x4 x5 x6 x7 x8 x10 (y 0) (y 1) := by
  obtain ⟨r, j, rfl⟩ : ∃ (r : Fin 256) (j : Fin 1024), x = ix2 r j := ⟨x 0, x 1, eq_ix2 x⟩
  obtain ⟨i, k, rfl⟩ : ∃ (i : Fin 1024) (k : Fin 1024), y = ix2 i k := ⟨y 0, y 1, eq_ix2 y⟩
  obtain rfl : k = j := Fin.ext h1
  exact tile_at x0 x1 x2 x3 x4 x5 x6 x7 x8 x10 o inb r i h0 k

theorem ffn_ld (o : ℕ) (inb : Within o) (x : S256x1024.Idx) (y : S1024x1024.Idx) (h0 : (y 0 : ℕ) = o + x 0) (h1 : (y 1 : ℕ) = x 1) :
    (ffn (tile x0 x1 x2 x3 x4 x5 x6 x7 x8 x10 o inb) (View.ld (Val := Elt Ideal) (e' := .f32) x9 r0_2)
      (View.ld (Val := Elt Ideal) (e' := .f32) x12 r0_3) (View.ld (Val := Elt Ideal) (e' := .f32) x11 r0_3) x : EReal)
      = ffnOut x0 x1 x2 x3 x4 x5 x6 x7 x8 x9 x10 x11 x12 (y 0) (y 1) := by
  obtain ⟨r, j, rfl⟩ : ∃ (r : Fin 256) (j : Fin 1024), x = ix2 r j := ⟨x 0, x 1, eq_ix2 x⟩
  obtain ⟨i, k, rfl⟩ : ∃ (i : Fin 1024) (k : Fin 1024), y = ix2 i k := ⟨y 0, y 1, eq_ix2 y⟩
  obtain rfl : k = j := Fin.ext h1
  have z : (![0, 0] : Fin 2 → ℕ) = fun _ => 0 := by decide
  have z3 : (![0, 0, 0] : Fin 3 → ℕ) = fun _ => 0 := by decide
  have e9 : View.ld (Val := Elt Ideal) (e' := .f32) x9 r0_2 = x9 := View.ld_unit_zero z _ _
  have e11 : View.ld (Val := Elt Ideal) (e' := .f32) x11 r0_3 = x11 := View.ld_unit_zero z3 _ _
  have e12 : View.ld (Val := Elt Ideal) (e' := .f32) x12 r0_3 = x12 := View.ld_unit_zero z3 _ _
  rw [ffn_apply, e9, e11, e12]
  refine congrArg (fun v => Rows.modulated v _ _ _ k) (funext fun l => ?_)
  exact tile_at x0 x1 x2 x3 x4 x5 x6 x7 x8 x10 o inb r i h0 l

/-- The output blocks at an index. -/
theorem sum_out (y : S1024x1024.Idx) : (out0_13 (F := Ideal) x0 x1 x2 x3 x4 x5 x6 x7 x8 x9 x10 x11 x12 y : EReal) = sumOut x0 x1 x2 x3 x4 x5 x6 x7 x8 x10 (y 0) (y 1) := by
  unfold out0_13
  canon_tiles x h
  all_goals exact tile_ld x0 x1 x2 x3 x4 x5 x6 x7 x8 x10 _ _ x y (by simpa using h0) (by simpa using h1)

theorem ffn_out (y : S1024x1024.Idx) : (out0_14 (F := Ideal) x0 x1 x2 x3 x4 x5 x6 x7 x8 x9 x10 x11 x12 y : EReal) = ffnOut x0 x1 x2 x3 x4 x5 x6 x7 x8 x9 x10 x11 x12 (y 0) (y 1) := by
  unfold out0_14
  canon_tiles x h
  all_goals exact ffn_ld x0 x1 x2 x3 x4 x5 x6 x7 x8 x9 x10 x11 x12 _ _ x y (by simpa using h0) (by simpa using h1)

end Cert.Merge

end
-- ==== Proof.Merge.Ref.lean ====
/- The reference merge read at an index: row `i` of a sequence `b` is `sumRow` and `Rows.modulated` of that row. -/
module

public import proofs.«01_k».proof.Proof.Merge.Body
public import proofs.«01_k».proof.Proof.Gen.Reference4Ideal.Read

@[expose] public section

set_option maxRecDepth 16384

noncomputable section

namespace Cert.Merge.Ref

open Idealize.ShloMosaic Idealize.ShloMosaic.TcCoe Idealize.SL.Sem
open Cert.Reference4Ideal Cert.Reference4Ideal.Gen Cert.Reference4Ideal.Read

variable (x0 : FVec Ideal S65536x1024 .f32) (x1 x2 x3 x4 : FVec Ideal S65536x1024 .bf16) (x5 x6 x7 : FVec Ideal S1024x1024 .f32)
  (x8 x9 : FVec Ideal S1024 .f32) (x10 x11 x12 : FVec Ideal S32x1x1024 .f32)

/-- Row `t` of sequence `b`. -/
def at_ (b : Fin 32) (t : Fin 2048) : Fin 65536 := ⟨b * 2048 + t, by omega⟩
/-- A row of an operand, and a matrix. -/
def row (x : S65536x1024.Idx → EReal) (b : Fin 32) (t : Fin 2048) (k : Fin 1024) : EReal := x (ix2 (at_ b t) k)
def mat (w : FVec Ideal S1024x1024 .f32) (k j : Fin 1024) : EReal := w (ix2 k j)
def vec (g : FVec Ideal S1024 .f32) (k : Fin 1024) : EReal := g (ix1 k)
def mod_ (g : FVec Ideal S32x1x1024 .f32) (b : Fin 32) (k : Fin 1024) : EReal := g (ix3 b 0 k)

theorem x_apply (b : Fin 32) (t : Fin 2048) (k : Fin 1024) : val_main_v0 (F := Ideal) x0 (ix3 b t k) = row x0 b t k := by
  pointwise [val_main_v0, row, at_]
theorem zr_apply (b : Fin 32) (t : Fin 2048) (k : Fin 1024) : val_main_v2 (F := Ideal) x1 (ix3 b t k) = row x1 b t k := by
  pointwise [val_main_v2, val_main_v1, row, at_]
theorem zd_apply (b : Fin 32) (t : Fin 2048) (k : Fin 1024) : val_main_v4 (F := Ideal) x2 (ix3 b t k) = row x2 b t k := by
  pointwise [val_main_v4, val_main_v3, row, at_]
theorem gr_apply (b : Fin 32) (t : Fin 2048) (k : Fin 1024) : val_main_v6 (F := Ideal) x3 (ix3 b t k) = row x3 b t k := by
  pointwise [val_main_v6, val_main_v5, row, at_]
theorem gd_apply (b : Fin 32) (t : Fin 2048) (k : Fin 1024) : val_main_v8 (F := Ideal) x4 (ix3 b t k) = row x4 b t k := by
  pointwise [val_main_v8, val_main_v7, row, at_]

theorem yr_apply (b : Fin 32) (t : Fin 2048) (j : Fin 1024) : val_main_v9 (F := Ideal) x1 x5 (ix3 b t j) = Rows.prod (row x1 b t) (mat x5) j := by
  rw [val_main_v9_apply]
  refine Finset.sum_congr rfl fun k _ => ?_
  have e : lidx_main_v9 (ix3 b t j) k = ix3 b t k := by funext c; fin_cases c <;> rfl
  have e' : ridx_main_v9 (ix3 b t j) k = ix2 k j := by funext c; fin_cases c <;> rfl
  rw [e, e', zr_apply]
  rfl

theorem yd_apply (b : Fin 32) (t : Fin 2048) (j : Fin 1024) : val_main_v10 (F := Ideal) x2 x6 (ix3 b t j) = Rows.prod (row x2 b t) (mat x6) j := by
  rw [val_main_v10_apply]
  refine Finset.sum_congr rfl fun k _ => ?_
  have e : lidx_main_v10 (ix3 b t j) k = ix3 b t k := by funext c; fin_cases c <;> rfl
  have e' : ridx_main_v10 (ix3 b t j) k = ix2 k j := by funext c; fin_cases c <;> rfl
  rw [e, e', zd_apply]
  rfl

/-- The mixed branches. -/
theorem mix_apply (b : Fin 32) (t : Fin 2048) (j : Fin 1024) :
    val_main_v14 (F := Ideal) x1 x2 x3 x4 x5 x6 x7 (ix3 b t j) = mixRow (row x1 b t) (row x2 b t) (row x3 b t) (row x4 b t) (mat x5) (mat x6) (mat x7) j := by
  rw [val_main_v14_apply]
  show _ = ∑ k, (row x3 b t k * Rows.prod (row x1 b t) (mat x5) k + row x4 b t k * Rows.prod (row x2 b t) (mat x6) k) * mat x7 k j
  refine Finset.sum_congr rfl fun k _ => ?_
  have e : lidx_main_v14 (ix3 b t j) k = ix3 b t k := by funext c; fin_cases c <;> rfl
  have e' : ridx_main_v14 (ix3 b t j) k = ix2 k j := by funext c; fin_cases c <;> rfl
  rw [e, e', val_main_v13_apply, val_main_v11_apply, val_main_v12_apply, yr_apply, yd_apply, gr_apply, gd_apply]
  rfl

/-- Their mean square, with the constant, under the reciprocal square root. -/
theorem mix_scale (b : Fin 32) (t : Fin 2048) :
    val_main_v22 (F := Ideal) x1 x2 x3 x4 x5 x6 x7 (ix3 b t 0) = Rows.scale (mixRow (row x1 b t) (row x2 b t) (row x3 b t) (row x4 b t) (mat x5) (mat x6) (mat x7)) := by
  rw [val_main_v22_apply, val_main_v21_apply, val_main_v19_apply, val_main_v17_apply, val_main_v20_apply, val_main_v18_apply, val_main_v16_apply]
  refine congrArg (fun s => Ideal.rsqrt (Ideal.div s _ + _)) ?_
  refine ((congrArg (· + _) Ideal.ofBits_zero_f32).trans (zero_add _)).trans (Finset.sum_congr rfl fun k _ => ?_)
  rw [val_main_v15_apply, show idx_main_v16 (idx_main_v17 (ix3 b t 0)) k = ix3 b t k by funext c; fin_cases c <;> rfl, mix_apply]
  rfl

/-- The sum. -/
theorem sum_apply (b : Fin 32) (t : Fin 2048) (j : Fin 1024) :
    val_main_v30 (F := Ideal) x0 x1 x2 x3 x4 x5 x6 x7 x8 x10 (ix3 b t j)
      = sumRow (row x0 b t) (row x1 b t) (row x2 b t) (row x3 b t) (row x4 b t) (mat x5) (mat x6) (mat x7) (vec x8) (mod_ x10 b) j := by
  rw [val_main_v30_apply, x_apply, val_main_v29_apply, val_main_v28_apply, val_main_v27_apply, val_main_v26_apply, val_main_v25_apply, val_main_v24_apply,
    val_main_v23_apply, mix_apply, show idx_main_v23 (ix3 b t j) = ix3 b t 0 by funext c; fin_cases c <;> rfl, mix_scale]
  rw [show idx_main_v28 (ix3 b t j) = ix3 b 0 j by funext c; fin_cases c <;> rfl,
    show idx_main_v25 (idx_main_v26 (ix3 b t j)) = ix1 j by funext c; fin_cases c <;> rfl]
  rfl

theorem sum_scale (b : Fin 32) (t : Fin 2048) :
    val_main_v38 (F := Ideal) x0 x1 x2 x3 x4 x5 x6 x7 x8 x10 (ix3 b t 0)
      = Rows.scale (sumRow (row x0 b t) (row x1 b t) (row x2 b t) (row x3 b t) (row x4 b t) (mat x5) (mat x6) (mat x7) (vec x8) (mod_ x10 b)) := by
  rw [val_main_v38_apply, val_main_v37_apply, val_main_v35_apply, val_main_v33_apply, val_main_v36_apply, val_main_v34_apply, val_main_v32_apply]
  refine congrArg (fun s => Ideal.rsqrt (Ideal.div s _ + _)) ?_
  refine ((congrArg (· + _) Ideal.ofBits_zero_f32).trans (zero_add _)).trans (Finset.sum_congr rfl fun k _ => ?_)
  rw [val_main_v31_apply, show idx_main_v32 (idx_main_v33 (ix3 b t 0)) k = ix3 b t k by funext c; fin_cases c <;> rfl, sum_apply]
  rfl

/-- The modulated norm of the sum. -/
theorem ffn_apply (b : Fin 32) (t : Fin 2048) (j : Fin 1024) :
    val_main_v49 (F := Ideal) x0 x1 x2 x3 x4 x5 x6 x7 x8 x9 x10 x11 x12 (ix3 b t j)
      = Rows.modulated (sumRow (row x0 b t) (row x1 b t) (row x2 b t) (row x3 b t) (row x4 b t) (mat x5) (mat x6) (mat x7) (vec x8) (mod_ x10 b))
          (vec x9) (mod_ x12 b) (mod_ x11 b) j := by
  rw [val_main_v49_apply, val_main_v47_apply, val_main_v48_apply, val_main_v46_apply, val_main_v45_apply, val_main_v43_apply, val_main_v42_apply, val_main_v41_apply,
    val_main_v40_apply, val_main_v39_apply, sum_apply, show idx_main_v39 (ix3 b t j) = ix3 b t 0 by funext c; fin_cases c <;> rfl, sum_scale]
  rw [show idx_main_v48 (ix3 b t j) = ix3 b 0 j by funext c; fin_cases c <;> rfl, show idx_main_v46 (ix3 b t j) = ix3 b 0 j by funext c; fin_cases c <;> rfl,
    show idx_main_v41 (idx_main_v42 (ix3 b t j)) = ix1 j by funext c; fin_cases c <;> rfl]
  rfl

/-- The sequence and the row within it. -/
def seq (i : Fin 65536) : Fin 32 := ⟨i / 2048, by omega⟩
def tok (i : Fin 65536) : Fin 2048 := ⟨i % 2048, by omega⟩

/-- The two results. -/
theorem result0 (i : Fin 65536) (j : Fin 1024) :
    val_main_v50 (F := Ideal) x0 x1 x2 x3 x4 x5 x6 x7 x8 x10 (ix2 i j)
      = sumRow (row x0 (seq i) (tok i)) (row x1 (seq i) (tok i)) (row x2 (seq i) (tok i)) (row x3 (seq i) (tok i)) (row x4 (seq i) (tok i)) (mat x5) (mat x6) (mat x7) (vec x8) (mod_ x10 (seq i)) j := by
  have e : idx_main_v50 (ix2 i j) = ix3 (seq i) (tok i) j := by
    funext c; fin_cases c <;> apply Fin.ext <;> simp [seq, tok] <;> omega
  rw [val_main_v50_apply, e, sum_apply]

theorem result1 (i : Fin 65536) (j : Fin 1024) :
    val_main_v52 (F := Ideal) x0 x1 x2 x3 x4 x5 x6 x7 x8 x9 x10 x11 x12 (ix2 i j)
      = Rows.modulated (sumRow (row x0 (seq i) (tok i)) (row x1 (seq i) (tok i)) (row x2 (seq i) (tok i)) (row x3 (seq i) (tok i)) (row x4 (seq i) (tok i)) (mat x5) (mat x6) (mat x7) (vec x8) (mod_ x10 (seq i)))
          (vec x9) (mod_ x12 (seq i)) (mod_ x11 (seq i)) j := by
  have e : idx_main_v51 (ix2 i j) = ix3 (seq i) (tok i) j := by
    funext c; fin_cases c <;> apply Fin.ext <;> simp [seq, tok] <;> omega
  rw [val_main_v52_apply, val_main_v51_apply, e, ffn_apply]
  rfl

end Cert.Merge.Ref

end
-- ==== Proof.Merge.Final.lean ====
/- The merge kernel's two output arrays are the reference's results: point `t` computes rows `1024 t` on, which lie in
   sequence `t / 2`. -/
module

public import proofs.«01_k».proof.Proof.Merge.Out
public import proofs.«01_k».proof.Proof.Merge.Ref
public import proofs.«01_k».proof.Proof.Gen.Kernel4Ideal.Value

@[expose] public section

set_option maxRecDepth 16384

noncomputable section

namespace Cert.Merge

open Idealize.ShloMosaic Idealize.ShloMosaic.TcCoe Idealize.SL.Sem
open Cert.Kernel4Ideal Cert.Kernel4Ideal.Gen
open Idealize.ShloMosaic.Pipeline (Dat)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val / 2, 0, 0] := (by decide +kernel : ∀ t : Fin grid0.N, _)
theorem idx11 : ∀ t : Fin cfg0.N, win0_11.index t = ![t.val / 2, 0, 0] := (by decide +kernel : ∀ t : Fin grid0.N, _)
theorem idx12 : ∀ t : Fin cfg0.N, win0_12.index t = ![t.val / 2, 0, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem covers13 : ((cfgs 0).win 13).Covers := by decide +kernel
theorem covers14 : ((cfgs 0).win 14).Covers := by decide +kernel

variable (m : (ℓ : Loc nD τ sig) → Buf (Elt Ideal) ℓ) (c : Dev nD) (t : Fin cfg0.N)

/-- Argument `b` as launched. -/
abbrev arg (b : Ref sig .tc) := m ((c : Thread nD τ).loc b)

section Blocks

variable (i : Fin 1024) (k : Fin 1024) (I : Fin 65536) (hI : (I : ℕ) = t.val * 1024 + i)

include hI in
theorem blk0 : (iblk m c 0 t : S1024x1024.Idx → EReal) (ix2 i k) = arg m c main_arg0 (ix2 I k) := by blk_point [iblk, V, idx0 t]
include hI in
theorem blk1 : (iblk m c 1 t : S1024x1024.Idx → EReal) (ix2 i k) = arg m c main_arg1 (ix2 I k) := by blk_point [iblk, V, idx1 t]
include hI in
theorem blk2 : (iblk m c 2 t : S1024x1024.Idx → EReal) (ix2 i k) = arg m c main_arg2 (ix2 I k) := by blk_point [iblk, V, idx2 t]
include hI in
theorem blk3 : (iblk m c 3 t : S1024x1024.Idx → EReal) (ix2 i k) = arg m c main_arg3 (ix2 I k) := by blk_point [iblk, V, idx3 t]
include hI in
theorem blk4 : (iblk m c 4 t : S1024x1024.Idx → EReal) (ix2 i k) = arg m c main_arg4 (ix2 I k) := by blk_point [iblk, V, idx4 t]
theorem blk5 : (iblk m c 5 t : S1024x1024.Idx → EReal) (ix2 i k) = arg m c main_arg5 (ix2 i k) := by blk_point [iblk, V, idx5 t]
theorem blk6 : (iblk m c 6 t : S1024x1024.Idx → EReal) (ix2 i k) = arg m c main_arg6 (ix2 i k) := by blk_point [iblk, V, idx6 t]
theorem blk7 : (iblk m c 7 t : S1024x1024.Idx → EReal) (ix2 i k) = arg m c main_arg7 (ix2 i k) := by blk_point [iblk, V, idx7 t]
theorem blk8 : (iblk m c 8 t : S1x1024.Idx → EReal) (ix2 0 k) = arg m c main_arg8 (ix1 k) := by blk_point [iblk, V, idx8 t]
theorem blk9 : (iblk m c 9 t : S1x1024.Idx → EReal) (ix2 0 k) = arg m c main_arg9 (ix1 k) := by blk_point [iblk, V, idx9 t]

variable (b : Fin 32) (hb : (b : ℕ) = t.val / 2)

include hb in
theorem blk10 : (iblk m c 10 t : S1x1x1024.Idx → EReal) (ix3 0 0 k) = arg m c main_arg10 (ix3 b 0 k) := by blk_point [iblk, V, idx10 t]
include hb in
theorem blk11 : (iblk m c 11 t : S1x1x1024.Idx → EReal) (ix3 0 0 k) = arg m c main_arg11 (ix3 b 0 k) := by blk_point [iblk, V, idx11 t]
include hb in
theorem blk12 : (iblk m c 12 t : S1x1x1024.Idx → EReal) (ix3 0 0 k) = arg m c main_arg12 (ix3 b 0 k) := by blk_point [iblk, V, idx12 t]

end Blocks

/-- The reference's results over the kernel's arguments. -/
abbrev REF0 : FVec Ideal S65536x1024 .f32 :=
  Cert.Reference4Ideal.Read.val_main_v50 (F := Ideal) (arg m c main_arg0) (arg m c main_arg1) (arg m c main_arg2) (arg m c main_arg3) (arg m c main_arg4)
    (arg m c main_arg5) (arg m c main_arg6) (arg m c main_arg7) (arg m c main_arg8) (arg m c main_arg10)
abbrev REF1 : FVec Ideal S65536x1024 .bf16 :=
  Cert.Reference4Ideal.Read.val_main_v52 (F := Ideal) (arg m c main_arg0) (arg m c main_arg1) (arg m c main_arg2) (arg m c main_arg3) (arg m c main_arg4)
    (arg m c main_arg5) (arg m c main_arg6) (arg m c main_arg7) (arg m c main_arg8) (arg m c main_arg9) (arg m c main_arg10) (arg m c main_arg11) (arg m c main_arg12)

section Point

variable (i j : Fin 1024) (I : Fin 65536) (hI : (I : ℕ) = t.val * 1024 + i)

include hI in
/-- Row `i` of block `t` of the sum is the reference's row. -/
theorem sum_point : sumOut (iblk m c 0 t) (iblk m c 1 t) (iblk m c 2 t) (iblk m c 3 t) (iblk m c 4 t) (iblk m c 5 t) (iblk m c 6 t) (iblk m c 7 t) (iblk m c 8 t) (iblk m c 10 t) i
    = sumRow (Ref.row (arg m c main_arg0) (Ref.seq I) (Ref.tok I)) (Ref.row (arg m c main_arg1) (Ref.seq I) (Ref.tok I)) (Ref.row (arg m c main_arg2) (Ref.seq I) (Ref.tok I))
        (Ref.row (arg m c main_arg3) (Ref.seq I) (Ref.tok I)) (Ref.row (arg m c main_arg4) (Ref.seq I) (Ref.tok I)) (Ref.mat (arg m c main_arg5)) (Ref.mat (arg m c main_arg6)) (Ref.mat (arg m c main_arg7))
        (Ref.vec (arg m c main_arg8)) (Ref.mod_ (arg m c main_arg10) (Ref.seq I)) := by
  have hb : ((Ref.seq I : Fin 32) : ℕ) = t.val / 2 := by simp only [Ref.seq]; omega
  have hi : ((Ref.at_ (Ref.seq I) (Ref.tok I) : Fin 65536) : ℕ) = t.val * 1024 + i := by simp only [Ref.at_, Ref.seq, Ref.tok]; omega
  unfold sumOut
  congr 1
  · exact funext fun k => blk0 m c t i k _ hi
  · exact funext fun k => blk1 m c t i k _ hi
  · exact funext fun k => blk2 m c t i k _ hi
  · exact funext fun k => blk3 m c t i k _ hi
  · exact funext fun k => blk4 m c t i k _ hi
  · exact funext fun k => funext fun l => blk5 m c t k l
  · exact funext fun k => funext fun l => blk6 m c t k l
  · exact funext fun k => funext fun l => blk7 m c t k l
  · exact funext fun k => blk8 m c t k
  · exact funext fun k => blk10 m c t k _ hb

include hI in
theorem point0 : sumOut (iblk m c 0 t) (iblk m c 1 t) (iblk m c 2 t) (iblk m c 3 t) (iblk m c 4 t) (iblk m c 5 t) (iblk m c 6 t) (iblk m c 7 t) (iblk m c 8 t) (iblk m c 10 t) i j
    = REF0 m c (ix2 I j) := by
  unfold REF0
  rw [sum_point m c t i I hI, Ref.result0]

include hI in
theorem point1 : ffnOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
    = REF1 m c (ix2 I j) := by
  have hb : ((Ref.seq I : Fin 32) : ℕ) = t.val / 2 := by simp only [Ref.seq]; omega
  unfold REF1 ffnOut
  rw [sum_point m c t i I hI, Ref.result1, funext fun k => blk9 m c t k, funext fun k => blk11 m c t k _ hb, funext fun k => blk12 m c t k _ hb]
  rfl

end Point

theorem final0 : (dats m 0 c).arrAt 13 (cfgs 0).N = REF0 m c := by
  refine (dats m 0 c).arrAt_eq_of_covers 13 _ covers13 fun t _ y => ?_
  blk_simp
  rw [after0_13]
  obtain ⟨i, j, rfl⟩ : ∃ (i j : Fin 1024), y = ix2 i j := ⟨y 0, y 1, eq_ix2 y⟩
  have ht : t.val < 64 := t.isLt
  have e : ((cfg0.win 13).blk t).view.emb (ix2 i j) = ix2 (⟨t.val * 1024 + i, by omega⟩ : Fin 65536) j := by
    blk_ext [idx13 t]
  exact (sum_out _ _ _ _ _ _ _ _ _ _ _ _ _ _).trans ((point0 m c t i j _ rfl).trans (congrArg _ e.symm))

theorem final1 : (dats m 0 c).arrAt 14 (cfgs 0).N = REF1 m c := by
  refine (dats m 0 c).arrAt_eq_of_covers 14 _ covers14 fun t _ y => ?_
  blk_simp
  rw [after0_14]
  obtain ⟨i, j, rfl⟩ : ∃ (i j : Fin 1024), y = ix2 i j := ⟨y 0, y 1, eq_ix2 y⟩
  have ht : t.val < 64 := t.isLt
  have e : ((cfg0.win 14).blk t).view.emb (ix2 i j) = ix2 (⟨t.val * 1024 + i, by omega⟩ : Fin 65536) j := by
    blk_ext [idx14 t]
  exact (ffn_out _ _ _ _ _ _ _ _ _ _ _ _ _ _).trans ((point1 m c t i j _ rfl).trans (congrArg _ e.symm))

end Cert.Merge

end
-- ==== Proof.Merge.Claims.lean ====
/- The five claims of the merge: both programs run and leave their arguments, the kernel's text is unchanged by the
   idealization, and its two results are the reference's. -/
module

public import proofs.«01_k».proof.Defs
public import proofs.«01_k».proof.Proof.Merge.Final
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Merge

open Idealize.ShloMosaic Idealize.ShloMosaic.TcCoe Idealize.SL.Sem

theorem frame_kernel : Cert.quiescent_Kernel4 := fun m ρ _ => Cert.Kernel4.Gen.frame m ρ
theorem frame_ideal : Cert.quiescent_Kernel4Ideal := fun m ρ _ => Cert.Kernel4Ideal.Gen.frame m ρ

/-- The reference's run from any memory: it has no semaphore, and its arguments end as they were. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => REF0 m c, fun c => REF1 m c,
    (θ_run Cert.Kernel4Ideal.defs _ _).mono (fun _ h c => ⟨(h c).1.trans (final0 m c), (h c).2.1.trans (final1 m c), (h c).2.2⟩)
      (Cert.Kernel4Ideal.Value.run_blocks (F := Ideal) m ρ),
    (θ_run Cert.Reference4Ideal.defs _ _).mono (fun _ h c => ⟨(h c).1.trans ?_, (h c).2.1.trans ?_, (h c).2.2⟩)
      (Cert.Reference4Ideal.Value.run (F := Ideal) m' ρ')⟩
  · obtain ⟨h0, h1, h2, h3, h4, h5, h6, h7, h8, h9, h10, h11, h12⟩ := hagree c
    rw [Cert.Reference4Ideal.Read.val_main_v50_eq, h0, h1, h2, h3, h4, h5, h6, h7, h8, h10]
  · obtain ⟨h0, h1, h2, h3, h4, h5, h6, h7, h8, h9, h10, h11, h12⟩ := hagree c
    rw [Cert.Reference4Ideal.Read.val_main_v52_eq, h0, h1, h2, h3, h4, h5, h6, h7, h8, h9, h10, h11, h12]

end Cert.Merge

end
-- ==== Proof.Latent.Out.lean ====
/- The latent projection's body: two blocks of 256 rows, normed and modulated, times blocks of 512 columns, some of them
   turned, scaled or gated; and what an element of the nine output blocks is. -/
module

public import proofs.«01_k».proof.Proof.Rows
public import proofs.«01_k».proof.Proof.Gen.Kernel2Ideal.Frame
public import Idealize.ShloMosaic.Lib.Pipeline.ValueKit
public import Idealize.ShloMosaic.Lib.Pointwise
public import Idealize.ShloMosaic.Lib.KernelVsHost

@[expose] public section

set_option maxRecDepth 16384

noncomputable section

namespace Cert.Latent

open Idealize.ShloMosaic Idealize.ShloMosaic.TcCoe Idealize.SL.Sem
open Cert.Kernel2Ideal Cert.Kernel2Ideal.Gen

/-- A vector of extended reals. -/
abbrev Vc (s : Shape) (φ : FTy) := FVec Ideal s φ

/-- 256 rows, normed and modulated. -/
def modded (v : Vc S256x1024 .f32) (g : Vc S1x1024 .f32) (sc sh : Vc S1x1x1024 .f32) : Vc S256x1024 .bf16 :=
  truncf .bf16 (addf
    (mulf (mulf (mulf v (broadcastTo S256x1024 (rsqrt (addf
        (divf (shapeCast S256x1 (multiReduction .add [1] S256 (mulf v v) 0x00000000#32 reduces_S256x1024_S256 (.inl rfl) rfl) shapeCasts_S256_S256x1)
          (broadcast S256x1 (Scalar.ofBits .f32 0x44800000#32)))
        (broadcast S256x1 (Scalar.ofBits .f32 0x358637BD#32)))) broadcasts_S256x1_S256x1024))
      (broadcastTo S256x1024 (shapeCast S1x1024 g shapeCasts_S1x1024_S1x1024) broadcasts_S1x1024_S256x1024))
      (broadcastTo S256x1024 (addf (broadcast S1x1024 (Scalar.ofBits .f32 0x3F800000#32)) (shapeCast S1x1024 sc shapeCasts_S1x1x1024_S1x1024)) broadcasts_S1x1024_S256x1024))
    (broadcastTo S256x1024 (shapeCast S1x1024 sh shapeCasts_S1x1x1024_S1x1024) broadcasts_S1x1024_S256x1024)) bitsLt_bf16_f32

/-- Times 512 columns. -/
def times (a : Vc S256x1024 .bf16) (w : Vc S1024x512 .bf16) : Vc S256x512 .f32 :=
  matmul dot_S256x1024_S1024x512_S256x512_1_0_0_1_n_n none a w (constant S256x512 .f32 0x00000000#32)

/-- 128 columns turned: with the columns that the two rotations bring, each times a table. -/
def spun (s s' : BitVec 32) (a C A B : Vc S256x128 .f32) : Vc S256x128 .f32 :=
  addf (addf (mulf a (shapeCast S256x128 C shapeCasts_S256x128_S256x128))
      (mulf (dynamicRotate 1 s none a rotates_S256x128_d1) (shapeCast S256x128 A shapeCasts_S256x128_S256x128)))
    (mulf (dynamicRotate 1 s' none a rotates_S256x128_d1) (shapeCast S256x128 B shapeCasts_S256x128_S256x128))

theorem modded_apply (v : Vc S256x1024 .f32) (g : Vc S1x1024 .f32) (sc sh : Vc S1x1x1024 .f32) (r : Fin 256) (j : Fin 1024) :
    modded v g sc sh (ix2 r j) = Rows.modulated (fun x => v (ix2 r x)) (fun x => g (ix2 0 x)) (fun x => sc (ix3 0 0 x)) (fun x => sh (ix3 0 0 x)) j := by
  pointwise [modded, Rows.modulated, Rows.norm, Rows.scale]

theorem times_apply (a : Vc S256x1024 .bf16) (w : Vc S1024x512 .bf16) (r : Fin 256) (j : Fin 512) :
    times a w (ix2 r j) = Rows.prod (fun k => a (ix2 r k)) (fun k j => w (ix2 k j)) j := by
  pointwise [times, Rows.prod]

theorem rotated (s : BitVec 32) (a : Vc S256x128 .f32) (r : Fin 256) (l k : Fin 128) (hk : (k : ℕ) = (l + 128 - s.toNat % 128) % 128) :
    dynamicRotate 1 s none a rotates_S256x128_d1 (ix2 r l) = a (ix2 r k) :=
  dynamicRotate_apply _ _ _ _ _ _ fun b => match b with
    | ⟨0, _⟩ => rfl
    | ⟨1, _⟩ => hk

theorem spun_apply (s s' : BitVec 32) (a C A B : Vc S256x128 .f32) (r : Fin 256) (l k k' : Fin 128)
    (hk : (k : ℕ) = (l + 128 - s.toNat % 128) % 128) (hk' : (k' : ℕ) = (l + 128 - s'.toNat % 128) % 128) :
    (spun s s' a C A B (ix2 r l) : EReal) = a (ix2 r l) * C (ix2 r l) + a (ix2 r k) * A (ix2 r l) + a (ix2 r k') * B (ix2 r l) := by
  rw [spun, shapeCast_self, shapeCast_self, shapeCast_self]
  show a (ix2 r l) * C (ix2 r l) + dynamicRotate 1 s none a rotates_S256x128_d1 (ix2 r l) * A (ix2 r l) + dynamicRotate 1 s' none a rotates_S256x128_d1 (ix2 r l) * B (ix2 r l) = _
  rw [rotated s a r l k hk, rotated s' a r l k' hk']

variable (x0 : Vc S512x1024 .f32) (x1 : Vc S1x1024 .f32) (x2 x3 : Vc S1x1x1024 .f32) (x4 : Vc S1024x8192 .bf16)

/-- Row `i` of a block, projected to column `J`. -/
def projOut (i : Fin 512) (J : ℕ) : EReal :=
  Rows.proj (fun k => x0 (ix2 i k)) (fun k => x1 (ix2 0 k)) (fun k => x2 (ix3 0 0 k)) (fun k => x3 (ix3 0 0 k)) (fun k j => x4 (ix2 k j)) (⟨J % 8192, Nat.mod_lt _ (by omega)⟩ : Fin 8192)

/-- Column `J` of row `i` of a block, turned with the columns `p` further and `p` back within its group of 128. -/
def turnOut (p : ℕ) (C A B : Vc S512x128 .f32) (i : Fin 512) (J : ℕ) : EReal :=
  projOut x0 x1 x2 x3 x4 i J * C (ix2 i ⟨J % 128, Nat.mod_lt _ (by omega)⟩)
    + projOut x0 x1 x2 x3 x4 i (J - J % 128 + (J % 128 + p) % 128) * A (ix2 i ⟨J % 128, Nat.mod_lt _ (by omega)⟩)
    + projOut x0 x1 x2 x3 x4 i (J - J % 128 + (J % 128 + (128 - p)) % 128) * B (ix2 i ⟨J % 128, Nat.mod_lt _ (by omega)⟩)

/-- Rows from `o` on, and columns from `p` on, lie within their arrays. -/
abbrev RowsIn (o : ℕ) : Prop := ∀ a, (![o, 0] : Fin 2 → ℕ) a + S256x1024.size a ≤ S512x1024.size a
abbrev TabsIn (o : ℕ) : Prop := ∀ a, (![o, 0] : Fin 2 → ℕ) a + S256x128.size a ≤ S512x128.size a
abbrev ColsIn (p : ℕ) : Prop := ∀ a, (![0, p] : Fin 2 → ℕ) a + S1024x512.size a ≤ S1024x8192.size a

/-- The rows from `o` on of the block times the columns from `p` on. -/
abbrev tile (o p : ℕ) (ho : RowsIn o) (hp : ColsIn p) : Vc S256x512 .f32 :=
  times (modded (View.ld (Val := Elt Ideal) (e' := .f32) x0 (Rect.unit (s := S512x1024) ![o, 0] S256x1024.size ho))
      (View.ld (Val := Elt Ideal) (e' := .f32) x1 r0_1) (View.ld (Val := Elt Ideal) (e' := .f32) x2 r0_2) (View.ld (Val := Elt Ideal) (e' := .f32) x3 r0_2))
    (View.ld (Val := Elt Ideal) (e' := .bf16) x4 (Rect.unit (s := S1024x8192) ![0, p] S1024x512.size hp))

/-- The rows from `o` on of a table. -/
abbrev tab (T : Vc S512x128 .f32) (o : ℕ) (ho : TabsIn o) : Vc S256x128 .f32 :=
  View.ld (Val := Elt Ideal) (e' := .f32) T (Rect.unit (s := S512x128) ![o, 0] S256x128.size ho)

theorem tile_ld (o p : ℕ) (ho : RowsIn o) (hp : ColsIn p) (x : S256x512.Idx) (i : Fin 512) (J : ℕ) (hi : (i : ℕ) = o + x 0) (hJ : J = p + x 1) :
    (tile x0 x1 x2 x3 x4 o p ho hp x : EReal) = projOut x0 x1 x2 x3 x4 i J := by
  obtain ⟨r, j, rfl⟩ : ∃ (r : Fin 256) (j : Fin 512), x = ix2 r j := ⟨x 0, x 1, eq_ix2 x⟩
  have z : (![0, 0] : Fin 2 → ℕ) = fun _ => 0 := by decide
  have z3 : (![0, 0, 0] : Fin 3 → ℕ) = fun _ => 0 := by decide
  have e1 : View.ld (Val := Elt Ideal) (e' := .f32) x1 r0_1 = x1 := View.ld_unit_zero z _ _
  have e2 : View.ld (Val := Elt Ideal) (e' := .f32) x2 r0_2 = x2 := View.ld_unit_zero z3 _ _
  have e3 : View.ld (Val := Elt Ideal) (e' := .f32) x3 r0_2 = x3 := View.ld_unit_zero z3 _ _
  rw [tile, times_apply, e1, e2, e3, projOut, Rows.proj]
  refine Rows.prod_congr (fun k => ?_) fun k => ?_
  · rw [modded_apply]
    refine congrArg (fun v => Rows.modulated v _ _ _ k) (funext fun l => ?_)
    exact View.ld_unit_apply_of _ _ _ _ _ _ fun a => match a with
      | ⟨0, _⟩ => hi
      | ⟨1, _⟩ => (Nat.zero_add _).symm
  · refine View.ld_unit_apply_of _ _ _ _ _ _ fun a => match a with
      | ⟨0, _⟩ => (Nat.zero_add _).symm
      | ⟨1, _⟩ => ?_
    have h : p + 512 ≤ 8192 := hp 1
    show J % 8192 = p + j
    rw [hJ]
    exact Nat.mod_eq_of_lt (show p + (j : ℕ) < 8192 by omega)

theorem tab_ld (T : Vc S512x128 .f32) (o : ℕ) (ho : TabsIn o) (r : Fin 256) (l : Fin 128) (i : Fin 512) (k : Fin 128) (hi : (i : ℕ) = o + r) (hk : (k : ℕ) = l) :
    (tab T o ho (ix2 r l) : EReal) = T (ix2 i k) :=
  View.ld_unit_apply_of _ _ _ _ _ _ fun a => match a with
    | ⟨0, _⟩ => hi
    | ⟨1, _⟩ => hk.trans (Nat.zero_add _).symm

/-- The 128 columns from `l` on of a tile, turned. -/
theorem spun_ld (o p l q : ℕ) (s s' : BitVec 32) (ho : RowsIn o) (hp : ColsIn p) (hl : S256x512.Slices ![0, l] S256x128) (C A B : Vc S512x128 .f32) (h5 h6 h7 : TabsIn o)
    (x : S256x128.Idx) (i : Fin 512) (J : ℕ) (hi : (i : ℕ) = o + x 0) (hJ : J = p + (l + x 1)) (hpl : (p + l) % 128 = 0)
    (hs : s.toNat = 128 - q) (hs' : s'.toNat = q) (hq : 0 < q ∧ q < 128) :
    (spun s s' (extractStridedSlice S256x128 ![0, l] (tile x0 x1 x2 x3 x4 o p ho hp) hl) (tab C o h5) (tab A o h6) (tab B o h7) x : EReal)
      = turnOut x0 x1 x2 x3 x4 q C A B i J := by
  obtain ⟨r, j, rfl⟩ : ∃ (r : Fin 256) (j : Fin 128), x = ix2 r j := ⟨x 0, x 1, eq_ix2 x⟩
  have hJ' : J = p + (l + (j : ℕ)) := hJ
  have hl' : l + 128 ≤ 512 := hl.2 1
  have sl : ∀ (k : Fin 128) (K : ℕ), K = p + (l + (k : ℕ)) →
      (extractStridedSlice S256x128 ![0, l] (tile x0 x1 x2 x3 x4 o p ho hp) hl (ix2 r k) : EReal) = projOut x0 x1 x2 x3 x4 i K := fun k K hK => by
    refine (extractStridedSlice_apply ![0, l] _ hl (ix2 r k) (ix2 r (⟨l + k, by omega⟩ : Fin 512)) fun a => ?_).trans (tile_ld x0 x1 x2 x3 x4 o p ho hp _ i K hi hK)
    fin_cases a
    · exact (Nat.zero_add _).symm
    · rfl
  have e : J % 128 = j := by omega
  rw [spun_apply s s' _ _ _ _ r j ⟨(j + q) % 128, Nat.mod_lt _ (by omega)⟩ ⟨(j + (128 - q)) % 128, Nat.mod_lt _ (by omega)⟩
      (show (j + q) % 128 = _ by rw [hs]; omega) (show (j + (128 - q)) % 128 = _ by rw [hs']; omega),
    sl j J hJ', sl _ (J - J % 128 + (J % 128 + q) % 128) (show _ = p + (l + (j + q) % 128) by rw [e]; omega),
    sl _ (J - J % 128 + (J % 128 + (128 - q)) % 128) (show _ = p + (l + (j + (128 - q)) % 128) by rw [e]; omega),
    tab_ld C o h5 r j i ⟨J % 128, Nat.mod_lt _ (by omega)⟩ hi e, tab_ld A o h6 r j i ⟨J % 128, Nat.mod_lt _ (by omega)⟩ hi e, tab_ld B o h7 r j i ⟨J % 128, Nat.mod_lt _ (by omega)⟩ hi e]
  rfl

variable (x5 x6 x7 x8 x9 x10 : Vc S512x128 .f32)

theorem out11 (y : S512x512.Idx) : (out0_11 (F := Ideal) x0 x1 x2 x3 x4 x5 x6 x7 x8 x9 x10 y : EReal) = turnOut x0 x1 x2 x3 x4 32 x5 x6 x7 (y 0) (y 1 : ℕ) * Named.named (F := Ideal) (φ := .f32) κ "inv_sqrt_dk" 0x3DB504F3#32 := by
  unfold_out out0_11
  canon_tiles x h
  all_goals exact congrArg (fun v : EReal => v * Named.named (F := Ideal) (φ := .f32) κ "inv_sqrt_dk" 0x3DB504F3#32) (spun_ld x0 x1 x2 x3 x4 _ _ _ 32 96#32 32#32 _ _ (by decide) x5 x6 x7 _ _ _ x (y 0) _ (by simpa using h0) (by simp at h1 ⊢; omega) (by omega) rfl rfl (by omega))

theorem out12 (y : S512x512.Idx) : (out0_12 (F := Ideal) x0 x1 x2 x3 x4 x5 x6 x7 x8 x9 x10 y : EReal) = turnOut x0 x1 x2 x3 x4 32 x5 x6 x7 (y 0) (512 + (y 1 : ℕ)) := by
  unfold_out out0_12
  canon_tiles x h
  all_goals exact spun_ld x0 x1 x2 x3 x4 _ _ _ 32 96#32 32#32 _ _ (by decide) x5 x6 x7 _ _ _ x (y 0) _ (by simpa using h0) (by simp at h1 ⊢; omega) (by omega) rfl rfl (by omega)

theorem out13 (y : S512x1024.Idx) : (out0_13 (F := Ideal) x0 x1 x2 x3 x4 x5 x6 x7 x8 x9 x10 y : EReal) = projOut x0 x1 x2 x3 x4 (y 0) (1024 + (y 1 : ℕ)) := by
  unfold_out out0_13
  canon_tiles x h
  all_goals exact tile_ld x0 x1 x2 x3 x4 _ _ _ _ x (y 0) _ (by simpa using h0) (by simp at h1 ⊢; omega)

theorem out14 (y : S512x1024.Idx) : (out0_14 (F := Ideal) x0 x1 x2 x3 x4 x5 x6 x7 x8 x9 x10 y : EReal) = projOut x0 x1 x2 x3 x4 (y 0) (2048 + (y 1 : ℕ)) * Ideal.logistic (projOut x0 x1 x2 x3 x4 (y 0) (2048 + (y 1 : ℕ))) := by
  unfold_out out0_14
  canon_tiles x h
  all_goals exact congrArg (fun v : EReal => v * Ideal.logistic v) (tile_ld x0 x1 x2 x3 x4 _ _ _ _ x (y 0) _ (by simpa using h0) (by simp at h1 ⊢; omega))

theorem out15 (y : S512x1024.Idx) : (out0_15 (F := Ideal) x0 x1 x2 x3 x4 x5 x6 x7 x8 x9 x10 y : EReal) = turnOut x0 x1 x2 x3 x4 16 x8 x9 x10 (y 0) (3072 + (y 1 : ℕ)) * Named.named (F := Ideal) (φ := .f32) κ "log2e_over_sqrt_d" 0x3E38AA3B#32 := by
  unfold_out out0_15
  canon_tiles x h
  all_goals exact congrArg (fun v : EReal => v * Named.named (F := Ideal) (φ := .f32) κ "log2e_over_sqrt_d" 0x3E38AA3B#32) (spun_ld x0 x1 x2 x3 x4 _ _ _ 16 112#32 16#32 _ _ (by decide) x8 x9 x10 _ _ _ x (y 0) _ (by simpa using h0) (by simp at h1 ⊢; omega) (by omega) rfl rfl (by omega))

theorem out16 (y : S512x1024.Idx) : (out0_16 (F := Ideal) x0 x1 x2 x3 x4 x5 x6 x7 x8 x9 x10 y : EReal) = turnOut x0 x1 x2 x3 x4 16 x8 x9 x10 (y 0) (4096 + (y 1 : ℕ)) := by
  unfold_out out0_16
  canon_tiles x h
  all_goals exact spun_ld x0 x1 x2 x3 x4 _ _ _ 16 112#32 16#32 _ _ (by decide) x8 x9 x10 _ _ _ x (y 0) _ (by simpa using h0) (by simp at h1 ⊢; omega) (by omega) rfl rfl (by omega)

theorem out17 (y : S512x1024.Idx) : (out0_17 (F := Ideal) x0 x1 x2 x3 x4 x5 x6 x7 x8 x9 x10 y : EReal) = projOut x0 x1 x2 x3 x4 (y 0) (5120 + (y 1 : ℕ)) := by
  unfold_out out0_17
  canon_tiles x h
  all_goals exact tile_ld x0 x1 x2 x3 x4 _ _ _ _ x (y 0) _ (by simpa using h0) (by simp at h1 ⊢; omega)

theorem out18 (y : S512x1024.Idx) : (out0_18 (F := Ideal) x0 x1 x2 x3 x4 x5 x6 x7 x8 x9 x10 y : EReal) = Ideal.logistic (projOut x0 x1 x2 x3 x4 (y 0) (6144 + (y 1 : ℕ))) := by
  unfold_out out0_18
  canon_tiles x h
  all_goals exact congrArg Ideal.logistic (tile_ld x0 x1 x2 x3 x4 _ _ _ _ x (y 0) _ (by simpa using h0) (by simp at h1 ⊢; omega))

theorem out19 (y : S512x1024.Idx) : (out0_19 (F := Ideal) x0 x1 x2 x3 x4 x5 x6 x7 x8 x9 x10 y : EReal) = Ideal.logistic (projOut x0 x1 x2 x3 x4 (y 0) (7168 + (y 1 : ℕ))) := by
  unfold_out out0_19
  canon_tiles x h
  all_goals exact congrArg Ideal.logistic (tile_ld x0 x1 x2 x3 x4 _ _ _ _ x (y 0) _ (by simpa using h0) (by simp at h1 ⊢; omega))

end Cert.Latent

end
-- ==== Proof.Latent.Angle.lean ====
/- The rotary positions: the angle of a token, an axis and a frequency; and the rotation of a pair of columns by it. -/
module

public import Idealize.ShloMosaic.PureOps.Ideal.Laws
public import Idealize.ShloMosaic.Lib.ValueIdx

@[expose] public section

noncomputable section

namespace Cert.Latent

open Idealize.ShloMosaic

/-- The number `n`, as a word made real. -/
def num (n : ℕ) : EReal := FloatOps.sitofp (F := Ideal) .f32 (BitVec.ofNat 32 n)

/-- Frequency `k` of as many as the constant `b` says: 10000 to the power of `-k / b`. -/
def freq (b : BitVec 32) (k : ℕ) : EReal :=
  FloatOps.hostPowf (F := Ideal) (φ := .f32) (FloatOps.ofBits .f32 0x461C4000#32) (FloatOps.hostDivf (F := Ideal) (φ := .f32) (FloatOps.hostNegf (F := Ideal) (φ := .f32) (num k)) (FloatOps.ofBits .f32 b))

/-- Where token `t` stands: its row (axis 0) or its column (axis 1) in a grid 64 wide. -/
def place (t a : ℕ) : ℕ := if a = 0 then t / 64 else t % 64

/-- The angle by which token `t` turns its pair of frequency `k` on axis `a`. -/
def angle (b : BitVec 32) (t a k : ℕ) : EReal := num (place t a) * freq b k

def cosA (b : BitVec 32) (t a k : ℕ) : EReal := FloatOps.hostUnary (F := Ideal) (φ := .f32) .cos (angle b t a k)
def sinA (b : BitVec 32) (t a k : ℕ) : EReal := FloatOps.hostUnary (F := Ideal) (φ := .f32) .sin (angle b t a k)

/-- Column `J` of a row `P`, turned: columns come in groups of `2 p`, and column `k` of the first half of a group is turned
    with column `k` of the second half. -/
def turned (p : ℕ) (C S : EReal) (P : ℕ → EReal) (J : ℕ) : EReal :=
  if J % (2 * p) < p then P J * C - P (J + p) * S else P (J - p) * S + P J * C

/-- The same with the columns `p` further and `p` back, within a group of 128, each times a factor that is zero where it
    is not wanted. -/
theorem turned_eq {p : ℕ} (hp : p = 32 ∨ p = 16) (C S A B : EReal) (P : ℕ → EReal) (J : ℕ)
    (hA : A = if J % (2 * p) < p then -S else 0) (hB : B = if J % (2 * p) < p then 0 else S) :
    P J * C + P (J - J % 128 + (J % 128 + p) % 128) * A + P (J - J % 128 + (J % 128 + (128 - p)) % 128) * B = turned p C S P J := by
  subst hA hB
  unfold turned
  split_ifs with h
  · have e : J - J % 128 + (J % 128 + p) % 128 = J + p := by rcases hp with rfl | rfl <;> omega
    rw [e, mul_zero, add_zero, mul_neg, sub_eq_add_neg]
  · have e : J - J % 128 + (J % 128 + (128 - p)) % 128 = J - p := by rcases hp with rfl | rfl <;> omega
    rw [e, mul_zero, add_zero, add_comm]

end Cert.Latent

end
-- ==== Proof.Latent.Tables.lean ====
/- The cosines and sines that the program makes before the call: 128 columns wide, one row for each token; what an entry
   is. -/
module

public import proofs.«01_k».proof.Proof.Latent.Angle
public import proofs.«01_k».proof.Proof.Gen.Kernel2Ideal.Frame
public import Idealize.ShloMosaic.Lib.StableHlo.RunRead
public import Idealize.ShloMosaic.Lib.StableHlo.ReadAt
public import Idealize.ShloMosaic.Lib.Pipeline.ValueKit
public import Idealize.ShloMosaic.Lib.Pointwise

@[expose] public section

set_option maxRecDepth 16384

noncomputable section

namespace Cert.Latent

open Idealize.ShloMosaic Idealize.ShloMosaic.TcCoe Idealize.SL.Sem
open Cert.Kernel2Ideal Cert.Kernel2Ideal.Gen

/-! ## Columns, by number -/

/-- The number `n` in each column. -/
abbrev each (n : BitVec 32) : IVec S128 32 := broadcastInDim S128 ![] bcast_S_S128 (constantI S_ 32 n)

/-- The divisor `n`, one in place of zero. -/
def divisor (n : BitVec 32) : IVec S_ 32 := select (cmpi .eq (constantI S_ 32 n) (constantI S_ 32 0#32)) (constantI S_ 32 1#32) (constantI S_ 32 n)

/-- Each column's number modulo `n`, of the sign of `n`. -/
def modulo (x : IVec S128 32) (n : BitVec 32) : IVec S128 32 :=
  select (andi (cmpi .ne (cmpi .slt (Host.remsi x (broadcastInDim S128 ![] bcast_S_S128 (divisor n))) (each 0#32)) (broadcastInDim S128 ![] bcast_S_S128 (cmpi .slt (divisor n) (constantI S_ 32 0#32))))
      (cmpi .ne (Host.remsi x (broadcastInDim S128 ![] bcast_S_S128 (divisor n))) (each 0#32)))
    (addi (Host.remsi x (broadcastInDim S128 ![] bcast_S_S128 (divisor n))) (broadcastInDim S128 ![] bcast_S_S128 (divisor n))) (Host.remsi x (broadcastInDim S128 ![] bcast_S_S128 (divisor n)))

/-- A column's number within its group of `n`. -/
def lane (n : BitVec 32) : IVec S128 32 := modulo (iotaInDim S128 32 0) n

/-- Which of `n` frequencies a column has, within groups of `g`. -/
def which (g n : BitVec 32) : IVec S128x1 32 :=
  broadcastInDim S128x1 ![0] bcast_S128_S128x1_0 (select (cmpi .slt (modulo (lane g) n) (each 0#32)) (addi (modulo (lane g) n) (each n)) (modulo (lane g) n))

/-- The columns whose number `x` is below `n`, in every row. -/
def below (x : IVec S128 32) (n : BitVec 32) : IVec S2048x128 1 :=
  broadcastInDim S2048x128 ![0, 1] bcast_S1x128_S2048x128_0_1 (broadcastInDim S1x128 ![1] bcast_S128_S1x128_1 (cmpi .slt x (each n)))

/-! ## Angles -/

/-- Each token's row, and its column, in the grid. -/
def rows : FVec Ideal S2048 .f32 := shapeCast S2048 (broadcastInDim S32x64 ![0] bcast_S32_S32x64_0 (sitofp .f32 (iotaInDim S32 32 0))) shapeCasts_S32x64_S2048
def cols : FVec Ideal S2048 .f32 :=
  shapeCast S2048 (broadcastInDim S32x64 ![0, 1] bcast_S1x64_S32x64_0_1 (shapeCast S1x64 (sitofp .f32 (iotaInDim S64 32 0)) shapeCasts_S64_S1x64)) shapeCasts_S32x64_S2048

/-- The place on the axis that the columns in `m` have, or on the other. -/
def places (m : IVec S2048x128 1) : FVec Ideal S2048x128 .f32 :=
  select m (broadcastInDim S2048x128 ![0, 1] bcast_S2048x1_S2048x128_0_1 (broadcastInDim S2048x1 ![0] bcast_S2048_S2048x1_0 rows))
    (broadcastInDim S2048x128 ![0, 1] bcast_S2048x1_S2048x128_0_1 (broadcastInDim S2048x1 ![0] bcast_S2048_S2048x1_0 cols))

def freqs32 : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))
def freqs16 : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- A frequency for each column, in every row. -/
def spread (f : FVec Ideal S128 .f32) : FVec Ideal S2048x128 .f32 :=
  broadcastInDim S2048x128 ![0, 1] bcast_S1x128_S2048x128_0_1 (broadcastInDim S1x128 ![1] bcast_S128_S1x128_1 f)

def angles32 : FVec Ideal S2048x128 .f32 :=
  mulf (places (below (lane 128#32) 64#32)) (spread (Host.gather gather_S32_S128x1_S128_n_0_n_n_0_1_1 freqs32 (which 128#32 32#32)))
def angles16 : FVec Ideal S2048x128 .f32 :=
  mulf (places (below (lane 64#32) 32#32)) (spread (Host.gather gather_S16_S128x1_S128_n_0_n_n_0_1_1 freqs16 (which 64#32 16#32)))

/-- Zero everywhere. -/
abbrev zeros : FVec Ideal S2048x128 .f32 := broadcastInDim S2048x128 ![] bcast_S_S2048x128 (constant S_ .f32 0x00000000#32)

/-! ## What the program makes -/

section Made
variable (m : (ℓ : Loc nD τ sig) → Buf (Elt Ideal) ℓ) (c : Dev nD)

theorem made5 : (V m c main_v32 : S2048x128.Idx → EReal) = Host.cos angles32 := by
  unfold V
  after_reads_simp
  simp -implicitDefEqProofs only [StableHlo.TRef.toBuf, StableHlo.TRef.ofBuf, cast_cast, cast_eq]
  rfl
theorem made6 : (V m c main_v39 : S2048x128.Idx → EReal) = select (below (modulo (lane 128#32) 64#32) 32#32) (Host.negf (Host.sin angles32)) zeros := by
  unfold V
  after_reads_simp
  simp -implicitDefEqProofs only [StableHlo.TRef.toBuf, StableHlo.TRef.ofBuf, cast_cast, cast_eq]
  rfl
theorem made7 : (V m c main_v40 : S2048x128.Idx → EReal) = select (below (modulo (lane 128#32) 64#32) 32#32) zeros (Host.sin angles32) := by
  unfold V
  after_reads_simp
  simp -implicitDefEqProofs only [StableHlo.TRef.toBuf, StableHlo.TRef.ofBuf, cast_cast, cast_eq]
  rfl
theorem made8 : (V m c main_v73 : S2048x128.Idx → EReal) = Host.cos angles16 := by
  unfold V
  after_reads_simp
  simp -implicitDefEqProofs only [StableHlo.TRef.toBuf, StableHlo.TRef.ofBuf, cast_cast, cast_eq]
  rfl
theorem made9 : (V m c main_v80 : S2048x128.Idx → EReal) = select (below (modulo (lane 64#32) 32#32) 16#32) (Host.negf (Host.sin angles16)) zeros := by
  unfold V
  after_reads_simp
  simp -implicitDefEqProofs only [StableHlo.TRef.toBuf, StableHlo.TRef.ofBuf, cast_cast, cast_eq]
  rfl
theorem made10 : (V m c main_v81 : S2048x128.Idx → EReal) = select (below (modulo (lane 64#32) 32#32) 16#32) zeros (Host.sin angles16) := by
  unfold V
  after_reads_simp
  simp -implicitDefEqProofs only [StableHlo.TRef.toBuf, StableHlo.TRef.ofBuf, cast_cast, cast_eq]
  rfl
/-- The gain as one row. -/
theorem made1 (k : Fin 1024) : (V m c main_v82 : S1x1024.Idx → EReal) (ix2 0 k) = m ((c : Thread nD τ).loc main_arg1) (ix1 k) := by
  unfold V
  after_reads_at

end Made

/-! ## Entries -/

theorem rows_apply (t : Fin 2048) : rows (ix1 t) = num (t / 64) := by
  unfold rows
  pointwise [num]
theorem cols_apply (t : Fin 2048) : cols (ix1 t) = num (t % 64) := by
  unfold cols
  pointwise [num]

theorem axis32 : ∀ l : Fin 128, cmpi .slt (lane 128#32) (each 64#32) (ix1 l) = if (l : ℕ) / 64 % 2 = 0 then 1#1 else 0#1 := by decide +kernel
theorem axis16 : ∀ l : Fin 128, cmpi .slt (lane 64#32) (each 32#32) (ix1 l) = if (l : ℕ) / 32 % 2 = 0 then 1#1 else 0#1 := by decide +kernel
theorem half32 : ∀ l : Fin 128, cmpi .slt (modulo (lane 128#32) 64#32) (each 32#32) (ix1 l) = if (l : ℕ) % 64 < 32 then 1#1 else 0#1 := by decide +kernel
theorem half16 : ∀ l : Fin 128, cmpi .slt (modulo (lane 64#32) 32#32) (each 16#32) (ix1 l) = if (l : ℕ) % 32 < 16 then 1#1 else 0#1 := by decide +kernel
theorem which32 : ∀ l : Fin 128, (gather_S32_S128x1_S128_n_0_n_n_0_1_1.operandIdx (ix1 l) (which 128#32 32#32) 0 : ℕ) = l % 32 := by decide +kernel
theorem which16 : ∀ l : Fin 128, (gather_S16_S128x1_S128_n_0_n_n_0_1_1.operandIdx (ix1 l) (which 64#32 16#32) 0 : ℕ) = l % 16 := by decide +kernel

/-- A choice by columns: by one column's number. -/
theorem choose (x : IVec S128 32) (n : BitVec 32) (P : Prop) [Decidable P] (a b : FVec Ideal S2048x128 .f32) (t : Fin 2048) (l : Fin 128)
    (h : cmpi .slt x (each n) (ix1 l) = if P then 1#1 else 0#1) : (select (below x n) a b (ix2 t l) : EReal) = if P then a (ix2 t l) else b (ix2 t l) := by
  have e : below x n (ix2 t l) = cmpi .slt x (each n) (ix1 l) := by
    refine congrArg (cmpi .slt x (each n)) (funext fun c => ?_)
    fin_cases c; rfl
  show Scalar.select (below x n (ix2 t l)) (a (ix2 t l)) (b (ix2 t l)) = _
  rw [e, h]
  split_ifs <;> rfl

theorem spread_apply (f : FVec Ideal S128 .f32) (t : Fin 2048) (l : Fin 128) : spread f (ix2 t l) = f (ix1 l) := by
  refine congrArg f (funext fun c => ?_)
  fin_cases c; rfl

theorem places_apply (x : IVec S128 32) (n : BitVec 32) (a : ℕ) (t : Fin 2048) (l : Fin 128)
    (h : cmpi .slt x (each n) (ix1 l) = if a = 0 then 1#1 else 0#1) : (places (below x n) (ix2 t l) : EReal) = num (place t a) := by
  have e (f : FVec Ideal S2048 .f32) : broadcastInDim S2048x128 ![0, 1] bcast_S2048x1_S2048x128_0_1 (broadcastInDim S2048x1 ![0] bcast_S2048_S2048x1_0 f) (ix2 t l) = f (ix1 t) := by
    refine congrArg f (funext fun c => ?_)
    fin_cases c; rfl
  rw [places, choose x n (a = 0) _ _ t l h, e, e, rows_apply, cols_apply, place]
  split_ifs <;> rfl

theorem freqs32_apply (k : Fin 32) : freqs32 (ix1 k) = freq 0x42000000#32 k := rfl

theorem angles32_apply (t : Fin 2048) (l : Fin 128) : angles32 (ix2 t l) = angle 0x42000000#32 t (l / 64 % 2) (l % 32) := by
  have e : gather_S32_S128x1_S128_n_0_n_n_0_1_1.operandIdx (ix1 l) (which 128#32 32#32) = ix1 (⟨l % 32, by omega⟩ : Fin 32) := by
    funext c; fin_cases c; exact Fin.ext (which32 l)
  show places _ (ix2 t l) * spread _ (ix2 t l) = _
  rw [places_apply _ _ (l / 64 % 2) t l (axis32 l), spread_apply,
    show Host.gather gather_S32_S128x1_S128_n_0_n_n_0_1_1 freqs32 (which 128#32 32#32) (ix1 l) = freqs32 (gather_S32_S128x1_S128_n_0_n_n_0_1_1.operandIdx (ix1 l) (which 128#32 32#32)) from rfl, e, freqs32_apply]
  rfl

theorem freqs16_apply (k : Fin 16) : freqs16 (ix1 k) = freq 0x41800000#32 k := rfl

theorem angles16_apply (t : Fin 2048) (l : Fin 128) : angles16 (ix2 t l) = angle 0x41800000#32 t (l / 32 % 2) (l % 16) := by
  have e : gather_S16_S128x1_S128_n_0_n_n_0_1_1.operandIdx (ix1 l) (which 64#32 16#32) = ix1 (⟨l % 16, by omega⟩ : Fin 16) := by
    funext c; fin_cases c; exact Fin.ext (which16 l)
  show places _ (ix2 t l) * spread _ (ix2 t l) = _
  rw [places_apply _ _ (l / 32 % 2) t l (axis16 l), spread_apply,
    show Host.gather gather_S16_S128x1_S128_n_0_n_n_0_1_1 freqs16 (which 64#32 16#32) (ix1 l) = freqs16 (gather_S16_S128x1_S128_n_0_n_n_0_1_1.operandIdx (ix1 l) (which 64#32 16#32)) from rfl, e, freqs16_apply]
  rfl

section Entries
variable (m : (ℓ : Loc nD τ sig) → Buf (Elt Ideal) ℓ) (c : Dev nD) (t : Fin 2048) (l : Fin 128)

theorem zeros_apply : (zeros (ix2 t l) : EReal) = 0 := Ideal.ofBits_zero_f32
theorem sin32 : Host.sin angles32 (ix2 t l) = sinA 0x42000000#32 t (l / 64 % 2) (l % 32) := congrArg (FloatOps.hostUnary (F := Ideal) (φ := .f32) .sin) (angles32_apply t l)
theorem sin16 : Host.sin angles16 (ix2 t l) = sinA 0x41800000#32 t (l / 32 % 2) (l % 16) := congrArg (FloatOps.hostUnary (F := Ideal) (φ := .f32) .sin) (angles16_apply t l)

theorem entry5 : (V m c main_v32 : S2048x128.Idx → EReal) (ix2 t l) = cosA 0x42000000#32 t (l / 64 % 2) (l % 32) := by
  rw [made5]
  exact congrArg (FloatOps.hostUnary (F := Ideal) (φ := .f32) .cos) (angles32_apply t l)
theorem entry6 : (V m c main_v39 : S2048x128.Idx → EReal) (ix2 t l) = if (l : ℕ) % 64 < 32 then -sinA 0x42000000#32 t (l / 64 % 2) (l % 32) else 0 := by
  rw [made6, choose _ _ ((l : ℕ) % 64 < 32) _ _ t l (half32 l), zeros_apply]
  exact congrArg (fun v : EReal => if (l : ℕ) % 64 < 32 then -v else 0) (sin32 t l)
theorem entry7 : (V m c main_v40 : S2048x128.Idx → EReal) (ix2 t l) = if (l : ℕ) % 64 < 32 then 0 else sinA 0x42000000#32 t (l / 64 % 2) (l % 32) := by
  rw [made7, choose _ _ ((l : ℕ) % 64 < 32) _ _ t l (half32 l), zeros_apply]
  exact congrArg (fun v : EReal => if (l : ℕ) % 64 < 32 then 0 else v) (sin32 t l)
theorem entry8 : (V m c main_v73 : S2048x128.Idx → EReal) (ix2 t l) = cosA 0x41800000#32 t (l / 32 % 2) (l % 16) := by
  rw [made8]
  exact congrArg (FloatOps.hostUnary (F := Ideal) (φ := .f32) .cos) (angles16_apply t l)
theorem entry9 : (V m c main_v80 : S2048x128.Idx → EReal) (ix2 t l) = if (l : ℕ) % 32 < 16 then -sinA 0x41800000#32 t (l / 32 % 2) (l % 16) else 0 := by
  rw [made9, choose _ _ ((l : ℕ) % 32 < 16) _ _ t l (half16 l), zeros_apply]
  exact congrArg (fun v : EReal => if (l : ℕ) % 32 < 16 then -v else 0) (sin16 t l)
theorem entry10 : (V m c main_v81 : S2048x128.Idx → EReal) (ix2 t l) = if (l : ℕ) % 32 < 16 then 0 else sinA 0x41800000#32 t (l / 32 % 2) (l % 16) := by
  rw [made10, choose _ _ ((l : ℕ) % 32 < 16) _ _ t l (half16 l), zeros_apply]
  exact congrArg (fun v : EReal => if (l : ℕ) % 32 < 16 then 0 else v) (sin16 t l)

end Entries

end Cert.Latent

end
-- ==== Proof.Latent.Ref.lean ====
/- The reference's projection of the latent tokens read at an index. -/
module

public import proofs.«01_k».proof.Proof.Rows
public import proofs.«01_k».proof.Proof.Latent.Angle
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Latent.Ref

open Idealize.ShloMosaic Idealize.ShloMosaic.TcCoe Idealize.SL.Sem
open Cert.Reference2Ideal Cert.Reference2Ideal.Gen Cert.Reference2Ideal.Read

variable (x0 : FVec Ideal S65536x1024 .f32) (x1 : FVec Ideal S1024 .f32) (x2 x3 : FVec Ideal S32x1x1024 .f32) (x4 : FVec Ideal S1024x8192 .bf16)

/-- Row `t` of sequence `b`, and the sequence and the row within it of row `i`. -/
def at_ (b : Fin 32) (t : Fin 2048) : Fin 65536 := ⟨b * 2048 + t, by omega⟩
def row (b : Fin 32) (t : Fin 2048) (k : Fin 1024) : EReal := x0 (ix2 (at_ b t) k)
def seq (i : Fin 65536) : Fin 32 := ⟨i / 2048, by omega⟩
def tok (i : Fin 65536) : Fin 2048 := ⟨i % 2048, by omega⟩

/-- Row `t` of sequence `b`, projected to column `J`. -/
def proj (b : Fin 32) (t : Fin 2048) (J : ℕ) : EReal :=
  Rows.proj (row x0 b t) (fun k => x1 (ix1 k)) (fun k => x2 (ix3 b 0 k)) (fun k => x3 (ix3 b 0 k)) (fun k j => x4 (ix2 k j)) (⟨J % 8192, Nat.mod_lt _ (by omega)⟩ : Fin 8192)

theorem x_apply (b : Fin 32) (t : Fin 2048) (k : Fin 1024) : val_main_v10 (F := Ideal) x0 (ix3 b t k) = row x0 b t k := by
  pointwise [val_main_v10, row, at_]

theorem scale_apply (b : Fin 32) (t : Fin 2048) : val_main_v18 (F := Ideal) x0 (ix3 b t 0) = Rows.scale (row x0 b t) := by
  rw [val_main_v18_apply, val_main_v17_apply, val_main_v15_apply, val_main_v13_apply, val_main_v16_apply, val_main_v14_apply, val_main_v12_apply]
  refine congrArg (fun s => Ideal.rsqrt (Ideal.div s _ + _)) ?_
  refine ((congrArg (· + _) Ideal.ofBits_zero_f32).trans (zero_add _)).trans (Finset.sum_congr rfl fun k _ => ?_)
  rw [val_main_v11_apply, show idx_main_v12 (idx_main_v13 (ix3 b t 0)) k = ix3 b t k by funext c; fin_cases c <;> rfl, x_apply]
  rfl

theorem modulated_apply (b : Fin 32) (t : Fin 2048) (k : Fin 1024) :
    val_main_v29 (F := Ideal) x0 x1 x2 x3 (ix3 b t k) = Rows.modulated (row x0 b t) (fun k => x1 (ix1 k)) (fun k => x2 (ix3 b 0 k)) (fun k => x3 (ix3 b 0 k)) k := by
  rw [val_main_v29_apply, val_main_v27_apply, val_main_v28_apply, val_main_v26_apply, val_main_v25_apply, val_main_v24_apply, val_main_v23_apply, val_main_v22_apply,
    val_main_v21_apply, val_main_v20_apply, val_main_v19_apply, x_apply, show idx_main_v19 (ix3 b t k) = ix3 b t 0 by funext c; fin_cases c <;> rfl, scale_apply]
  rw [show idx_main_v28 (ix3 b t k) = ix3 b 0 k by funext c; fin_cases c <;> rfl, show idx_main_v26 (ix3 b t k) = ix3 b 0 k by funext c; fin_cases c <;> rfl,
    show idx_main_v21 (idx_main_v22 (ix3 b t k)) = ix1 k by funext c; fin_cases c <;> rfl]
  rfl

theorem proj_apply (b : Fin 32) (t : Fin 2048) (J : Fin 8192) : val_main_v31 (F := Ideal) x0 x1 x2 x3 x4 (ix3 b t J) = proj x0 x1 x2 x3 x4 b t J := by
  have eJ : (⟨(J : ℕ) % 8192, Nat.mod_lt _ (by omega)⟩ : Fin 8192) = J := Fin.ext (Nat.mod_eq_of_lt J.isLt)
  rw [val_main_v31_apply, proj, eJ]
  show _ = ∑ k, Rows.modulated (row x0 b t) (fun k => x1 (ix1 k)) (fun k => x2 (ix3 b 0 k)) (fun k => x3 (ix3 b 0 k)) k * x4 (ix2 k J)
  refine Finset.sum_congr rfl fun k _ => ?_
  have e : lidx_main_v31 (ix3 b t J) k = ix3 b t k := by funext c; fin_cases c <;> rfl
  have e' : ridx_main_v31 (ix3 b t J) k = ix2 k J := by funext c; fin_cases c <;> rfl
  rw [e, e', modulated_apply]
  rfl

/-- The projected rows, all sequences in one. -/
theorem flat_apply (i : Fin 65536) (J : Fin 8192) : val_main_v32 (F := Ideal) x0 x1 x2 x3 x4 (ix2 i J) = proj x0 x1 x2 x3 x4 (seq i) (tok i) J := by
  have e : idx_main_v32 (ix2 i J) = ix3 (seq i) (tok i) J := by
    funext c; fin_cases c <;> apply Fin.ext <;> simp [seq, tok] <;> omega
  rw [val_main_v32_apply, e, proj_apply]

/-! ## The columns that are not turned -/

theorem result2 (i : Fin 65536) (j : Fin 1024) :
    val_main_v130 (F := Ideal) x0 x1 x2 x3 x4 (ix2 i j) = proj x0 x1 x2 x3 x4 (seq i) (tok i) (1024 + j) := by
  have e : idx_main_v34 (ix2 i j) = ix2 i (⟨1024 + j, by omega⟩ : Fin 8192) := by funext c; fin_cases c <;> rfl
  rw [val_main_v130_apply, val_main_v34_apply, e, flat_apply]
  rfl

theorem one_f32 : Ideal.ofBits .f32 0x3F800000#32 = 1 := by simp [Ideal.ofBits, Ideal.ieee, -EReal.coe_mul]; norm_num

/-- The sigmoid, spelled by a quotient. -/
theorem sigmoid_eq (x : EReal) :
    Ideal.div (Ideal.ofBits .f32 0x3F800000#32) (Ideal.ofBits .f32 0x3F800000#32 + Ideal.exp (-x)) = Ideal.logistic x := by
  rw [one_f32]; rfl

theorem result3 (i : Fin 65536) (j : Fin 1024) :
    val_main_v131 (F := Ideal) x0 x1 x2 x3 x4 (ix2 i j)
      = proj x0 x1 x2 x3 x4 (seq i) (tok i) (2048 + j) * Ideal.logistic (proj x0 x1 x2 x3 x4 (seq i) (tok i) (2048 + j)) := by
  have e : idx_main_v35 (ix2 i j) = ix2 i (⟨2048 + j, by omega⟩ : Fin 8192) := by funext c; fin_cases c <;> rfl
  rw [val_main_v131_apply, val_main_v123_apply, val_main_call0_v5_apply, val_main_call0_v3_apply, val_main_call0_v1_apply, val_main_call0_v0_apply, val_main_call0_v4_apply,
    val_main_call0_v2_apply, val_main_v35_apply, e, flat_apply]
  exact congrArg (_ * ·) (sigmoid_eq _)

theorem result6 (i : Fin 65536) (j : Fin 1024) :
    val_main_v136 (F := Ideal) x0 x1 x2 x3 x4 (ix2 i j) = proj x0 x1 x2 x3 x4 (seq i) (tok i) (5120 + j) := by
  have e : idx_main_v37 (ix2 i j) = ix2 i (⟨5120 + j, by omega⟩ : Fin 8192) := by funext c; fin_cases c <;> rfl
  rw [val_main_v136_apply, val_main_v37_apply, e, flat_apply]
  rfl

/-- Both gates, side by side. -/
theorem gates_apply (i : Fin 65536) (j : Fin 2048) :
    val_main_v44 (F := Ideal) x0 x1 x2 x3 x4 (ix2 i j) = Ideal.logistic (proj x0 x1 x2 x3 x4 (seq i) (tok i) (6144 + j)) := by
  have e : idx_main_v38 (ix2 i j) = ix2 i (⟨6144 + j, by omega⟩ : Fin 8192) := by funext c; fin_cases c <;> rfl
  rw [val_main_v44_apply, val_main_v42_apply, val_main_v43_apply, val_main_v41_apply, val_main_v40_apply, val_main_v39_apply, val_main_v38_apply, e, flat_apply]
  exact sigmoid_eq _

theorem result7 (i : Fin 65536) (j : Fin 1024) :
    val_main_v137 (F := Ideal) x0 x1 x2 x3 x4 (ix2 i j) = Ideal.logistic (proj x0 x1 x2 x3 x4 (seq i) (tok i) (6144 + j)) := by
  have e : idx_main_v124 (ix2 i j) = ix2 i (⟨j, by omega⟩ : Fin 2048) := by funext c; fin_cases c <;> rfl
  rw [val_main_v137_apply, val_main_v124_apply, e, gates_apply]
  rfl

theorem result8 (i : Fin 65536) (j : Fin 1024) :
    val_main_v138 (F := Ideal) x0 x1 x2 x3 x4 (ix2 i j) = Ideal.logistic (proj x0 x1 x2 x3 x4 (seq i) (tok i) (7168 + j)) := by
  have e : idx_main_v125 (ix2 i j) = ix2 i (⟨1024 + j, by omega⟩ : Fin 2048) := by funext c; fin_cases c <;> rfl
  rw [val_main_v138_apply, val_main_v125_apply, e, gates_apply]
  show Ideal.logistic (proj x0 x1 x2 x3 x4 (seq i) (tok i) (6144 + (1024 + j))) = _
  rw [← Nat.add_assoc]

end Cert.Latent.Ref

end
-- ==== Proof.Latent.RefTurn.lean ====
/- The reference's turned columns read at an index. -/
module

public import proofs.«01_k».proof.Proof.Latent.Ref

@[expose] public section

set_option maxRecDepth 16384

noncomputable section

namespace Cert.Latent.Ref

open Idealize.ShloMosaic Idealize.ShloMosaic.TcCoe Idealize.SL.Sem
open Cert.Reference2Ideal Cert.Reference2Ideal.Gen Cert.Reference2Ideal.Read

/-! ## The angles -/

theorem place_row (t : Fin 2048) : val_main_v7 (F := Ideal) (ix2 t 0) = num (t / 64) := by
  rw [val_main_v7_apply, val_main_v2_apply, val_main_v1_apply]
  rfl

theorem place_col (t : Fin 2048) : val_main_v8 (F := Ideal) (ix2 t 0) = num (t % 64) := by
  rw [val_main_v8_apply, val_main_v6_apply, val_main_v5_apply, val_main_v4_apply,
    show idx_main_v4 (idx_main_v5 (idx_main_v6 (idx_main_v8 (ix2 t 0)))) = ix1 (⟨t % 64, by omega⟩ : Fin 64) by
      funext c; fin_cases c; apply Fin.ext; simp]
  rfl

theorem place_apply (t : Fin 2048) (a : Fin 2) : val_main_v9 (F := Ideal) (ix2 t a) = num (place t a) := by
  unfold val_main_v9
  match a with
  | 0 =>
    refine (concatenate_pair_apply_left (t := S2048x2) (1 : Fin 2) (val_main_v7 (F := Ideal)) val_main_v8 concatenates_S2048x1_S2048x1_S2048x2_d1 (ix2 t (0 : Fin 2)) rfl (ix2 t (0 : Fin 1)) fun b => ?_).trans (place_row t)
    fin_cases b <;> rfl
  | 1 =>
    refine (concatenate_pair_apply_right (t := S2048x2) (1 : Fin 2) (val_main_v7 (F := Ideal)) val_main_v8 concatenates_S2048x1_S2048x1_S2048x2_d1 (ix2 t (1 : Fin 2)) rfl rfl (ix2 t (0 : Fin 1)) (fun b hb => ?_) rfl).trans (place_col t)
    fin_cases b
    · rfl
    · exact absurd rfl hb

theorem freq32 (k : Fin 32) : val_main_v51 (F := Ideal) (ix1 k) = freq 0x42000000#32 k := by
  rw [val_main_v51_apply, val_main_v50_apply, val_main_v49_apply, val_main_v48_apply, val_main_v47_apply]
  rfl

theorem freq16 (k : Fin 16) : val_main_v84 (F := Ideal) (ix1 k) = freq 0x41800000#32 k := by
  rw [val_main_v84_apply, val_main_v83_apply, val_main_v82_apply, val_main_v81_apply, val_main_v80_apply]
  rfl

theorem angle32 (t : Fin 2048) (a : Fin 2) (k : Fin 32) : val_main_v56 (F := Ideal) (ix3 t a k) = angle 0x42000000#32 t a k := by
  rw [val_main_v56_apply, val_main_v54_apply, val_main_v55_apply, val_main_v52_apply, val_main_v53_apply,
    show idx_main_v52 (idx_main_v54 (ix3 t a k)) = ix2 t a by funext c; fin_cases c <;> rfl,
    show idx_main_v53 (idx_main_v55 (ix3 t a k)) = ix1 k by funext c; fin_cases c <;> rfl, place_apply, freq32]
  rfl

theorem angle16 (t : Fin 2048) (a : Fin 2) (k : Fin 16) : val_main_v89 (F := Ideal) (ix3 t a k) = angle 0x41800000#32 t a k := by
  rw [val_main_v89_apply, val_main_v87_apply, val_main_v88_apply, val_main_v85_apply, val_main_v86_apply,
    show idx_main_v85 (idx_main_v87 (ix3 t a k)) = ix2 t a by funext c; fin_cases c <;> rfl,
    show idx_main_v86 (idx_main_v88 (ix3 t a k)) = ix1 k by funext c; fin_cases c <;> rfl, place_apply, freq16]
  rfl

section Retention
variable (b : Fin 32) (t : Fin 2048) (h : Fin 8) (a : Fin 2) (k : Fin 32)

theorem cos32 : val_main_v64 (F := Ideal) (ix5 b t h a k) = cosA 0x42000000#32 t a k := by
  rw [val_main_v64_apply, val_main_v63_apply, val_main_v59_apply, val_main_v57_apply,
    show idx_main_v59 (idx_main_v63 (idx_main_v64 (ix5 b t h a k))) = ix3 t a k by funext c; fin_cases c <;> rfl, angle32]
  rfl
theorem cos32' : val_main_v74 (F := Ideal) (ix5 b t h a k) = cosA 0x42000000#32 t a k := cos32 b t h a k
theorem sin32 : val_main_v67 (F := Ideal) (ix5 b t h a k) = sinA 0x42000000#32 t a k := by
  rw [val_main_v67_apply, val_main_v66_apply, val_main_v60_apply, val_main_v58_apply,
    show idx_main_v60 (idx_main_v66 (idx_main_v67 (ix5 b t h a k))) = ix3 t a k by funext c; fin_cases c <;> rfl, angle32]
  rfl
theorem sin32' : val_main_v71 (F := Ideal) (ix5 b t h a k) = sinA 0x42000000#32 t a k := sin32 b t h a k

end Retention

section Difference
variable (b : Fin 32) (t : Fin 2048) (h : Fin 32) (a : Fin 2) (k : Fin 16)

theorem cos16 : val_main_v97 (F := Ideal) (ix5 b t h a k) = cosA 0x41800000#32 t a k := by
  rw [val_main_v97_apply, val_main_v96_apply, val_main_v92_apply, val_main_v90_apply,
    show idx_main_v92 (idx_main_v96 (idx_main_v97 (ix5 b t h a k))) = ix3 t a k by funext c; fin_cases c <;> rfl, angle16]
  rfl
theorem cos16' : val_main_v107 (F := Ideal) (ix5 b t h a k) = cosA 0x41800000#32 t a k := cos16 b t h a k
theorem sin16 : val_main_v100 (F := Ideal) (ix5 b t h a k) = sinA 0x41800000#32 t a k := by
  rw [val_main_v100_apply, val_main_v99_apply, val_main_v93_apply, val_main_v91_apply,
    show idx_main_v93 (idx_main_v99 (idx_main_v100 (ix5 b t h a k))) = ix3 t a k by funext c; fin_cases c <;> rfl, angle16]
  rfl
theorem sin16' : val_main_v104 (F := Ideal) (ix5 b t h a k) = sinA 0x41800000#32 t a k := sin16 b t h a k

end Difference

/-! ## The turned columns -/

variable (x0 : FVec Ideal S65536x1024 .f32) (x1 : FVec Ideal S1024 .f32) (x2 x3 : FVec Ideal S32x1x1024 .f32) (x4 : FVec Ideal S1024x8192 .bf16)

theorem seq_at (b : Fin 32) (t : Fin 2048) : seq (at_ b t) = b := Fin.ext (by simp only [seq, at_]; omega)
theorem tok_at (b : Fin 32) (t : Fin 2048) : tok (at_ b t) = t := Fin.ext (by simp only [tok, at_]; omega)

/-- Column `J` of the retention's queries and keys, turned. -/
def ret (b : Fin 32) (t : Fin 2048) (J : ℕ) : EReal :=
  turned 32 (cosA 0x42000000#32 t (J / 64 % 2) (J % 32)) (sinA 0x42000000#32 t (J / 64 % 2) (J % 32)) (proj x0 x1 x2 x3 x4 b t) J

/-- Column `J` of the attention's queries and keys, turned. -/
def dif (b : Fin 32) (t : Fin 2048) (J : ℕ) : EReal :=
  turned 16 (cosA 0x41800000#32 t (J / 32 % 2) (J % 16)) (sinA 0x41800000#32 t (J / 32 % 2) (J % 16)) (proj x0 x1 x2 x3 x4 b t) J

theorem ret_in (b : Fin 32) (t : Fin 2048) (h : Fin 8) (a : Fin 2) (l : Fin 64) :
    val_main_v45 (F := Ideal) x0 x1 x2 x3 x4 (ix5 b t h a l) = proj x0 x1 x2 x3 x4 b t (h * 128 + a * 64 + l) := by
  have e : idx_main_v33 (idx_main_v45 (ix5 b t h a l)) = ix2 (at_ b t) (⟨h * 128 + a * 64 + l, by omega⟩ : Fin 8192) := by
    funext c; fin_cases c <;> apply Fin.ext <;> simp [at_] <;> omega
  rw [val_main_v45_apply, val_main_v33_apply, e, flat_apply, seq_at, tok_at]

theorem dif_in (b : Fin 32) (t : Fin 2048) (h : Fin 32) (a : Fin 2) (l : Fin 32) :
    val_main_v78 (F := Ideal) x0 x1 x2 x3 x4 (ix5 b t h a l) = proj x0 x1 x2 x3 x4 b t (3072 + (h * 64 + a * 32 + l)) := by
  have e : idx_main_v36 (idx_main_v78 (ix5 b t h a l)) = ix2 (at_ b t) (⟨3072 + (h * 64 + a * 32 + l), by omega⟩ : Fin 8192) := by
    funext c; fin_cases c <;> apply Fin.ext <;> simp [at_] <;> omega
  rw [val_main_v78_apply, val_main_v36_apply, e, flat_apply, seq_at, tok_at]

theorem ret_apply (b : Fin 32) (t : Fin 2048) (h : Fin 8) (a : Fin 2) (l : Fin 64) :
    val_main_v77 (F := Ideal) x0 x1 x2 x3 x4 (ix5 b t h a l) = ret x0 x1 x2 x3 x4 b t (h * 128 + a * 64 + l) := by
  have ea : (h * 128 + a * 64 + l : ℕ) / 64 % 2 = a := by omega
  have el : (h * 128 + a * 64 + l : ℕ) % 32 = l % 32 := by omega
  unfold val_main_v77
  by_cases hl : (l : ℕ) < 32
  · have e1 : idx_main_v61 (ix5 b t h a (⟨l, hl⟩ : Fin 32)) = ix5 b t h a l := by funext c; fin_cases c <;> rfl
    have e2 : idx_main_v62 (ix5 b t h a (⟨l, hl⟩ : Fin 32)) = ix5 b t h a (⟨32 + l, by omega⟩ : Fin 64) := by funext c; fin_cases c <;> rfl
    refine (concatenate_pair_apply_left (t := S32x2048x8x2x64) (4 : Fin 5) (val_main_v69 (F := Ideal) x0 x1 x2 x3 x4) (val_main_v76 x0 x1 x2 x3 x4) concatenates_S32x2048x8x2x32_S32x2048x8x2x32_S32x2048x8x2x64_d4 (ix5 b t h a l) rfl (ix5 b t h a (⟨l, hl⟩ : Fin 32)) fun c => ?_).trans ?_
    · fin_cases c <;> rfl
    · rw [val_main_v69_apply, val_main_v65_apply, val_main_v68_apply, val_main_v61_apply, val_main_v62_apply, e1, e2, ret_in, ret_in, cos32, sin32,
        ret, turned, if_pos (by omega), ea, el, Nat.mod_eq_of_lt hl]
      rw [show (h * 128 + a * 64 + l + 32 : ℕ) = h * 128 + a * 64 + (32 + l) by omega]
      rfl
  · have e1 : idx_main_v61 (ix5 b t h a (⟨l - 32, by omega⟩ : Fin 32)) = ix5 b t h a (⟨l - 32, by omega⟩ : Fin 64) := by funext c; fin_cases c <;> rfl
    have e2 : idx_main_v62 (ix5 b t h a (⟨l - 32, by omega⟩ : Fin 32)) = ix5 b t h a l := by
      funext c; fin_cases c <;> first | rfl | exact Fin.ext (show 32 + (l - 32 : ℕ) = l by omega)
    refine (concatenate_pair_apply_right (t := S32x2048x8x2x64) (4 : Fin 5) (val_main_v69 (F := Ideal) x0 x1 x2 x3 x4) (val_main_v76 x0 x1 x2 x3 x4) concatenates_S32x2048x8x2x32_S32x2048x8x2x32_S32x2048x8x2x64_d4 (ix5 b t h a l) rfl rfl (ix5 b t h a (⟨l - 32, by omega⟩ : Fin 32)) (fun c hc => ?_) (show (l - 32 : ℕ) + 32 = l by omega)).trans ?_
    · fin_cases c <;> first | rfl | exact absurd rfl hc
    · rw [val_main_v76_apply, val_main_v72_apply, val_main_v75_apply, val_main_v61_apply, val_main_v62_apply, e1, e2, ret_in, ret_in, cos32', sin32',
        ret, turned, if_neg (by omega), ea, el, show (l : ℕ) % 32 = l - 32 by omega]
      rw [show (h * 128 + a * 64 + l - 32 : ℕ) = h * 128 + a * 64 + (l - 32) by omega]
      rfl

theorem dif_apply (b : Fin 32) (t : Fin 2048) (h : Fin 32) (a : Fin 2) (l : Fin 32) :
    val_main_v110 (F := Ideal) x0 x1 x2 x3 x4 (ix5 b t h a l) = dif x0 x1 x2 x3 x4 b t (3072 + (h * 64 + a * 32 + l)) := by
  have ea : (3072 + (h * 64 + a * 32 + l) : ℕ) / 32 % 2 = a := by omega
  have el : (3072 + (h * 64 + a * 32 + l) : ℕ) % 16 = l % 16 := by omega
  unfold val_main_v110
  by_cases hl : (l : ℕ) < 16
  · have e1 : idx_main_v94 (ix5 b t h a (⟨l, hl⟩ : Fin 16)) = ix5 b t h a l := by funext c; fin_cases c <;> rfl
    have e2 : idx_main_v95 (ix5 b t h a (⟨l, hl⟩ : Fin 16)) = ix5 b t h a (⟨16 + l, by omega⟩ : Fin 32) := by funext c; fin_cases c <;> rfl
    refine (concatenate_pair_apply_left (t := S32x2048x32x2x32) (4 : Fin 5) (val_main_v102 (F := Ideal) x0 x1 x2 x3 x4) (val_main_v109 x0 x1 x2 x3 x4) concatenates_S32x2048x32x2x16_S32x2048x32x2x16_S32x2048x32x2x32_d4 (ix5 b t h a l) rfl (ix5 b t h a (⟨l, hl⟩ : Fin 16)) fun c => ?_).trans ?_
    · fin_cases c <;> rfl
    · rw [val_main_v102_apply, val_main_v98_apply, val_main_v101_apply, val_main_v94_apply, val_main_v95_apply, e1, e2, dif_in, dif_in, cos16, sin16,
        dif, turned, if_pos (by omega), ea, el, Nat.mod_eq_of_lt hl]
      rw [show (3072 + (h * 64 + a * 32 + l) + 16 : ℕ) = 3072 + (h * 64 + a * 32 + (16 + l)) by omega]
      rfl
  · have e1 : idx_main_v94 (ix5 b t h a (⟨l - 16, by omega⟩ : Fin 16)) = ix5 b t h a (⟨l - 16, by omega⟩ : Fin 32) := by funext c; fin_cases c <;> rfl
    have e2 : idx_main_v95 (ix5 b t h a (⟨l - 16, by omega⟩ : Fin 16)) = ix5 b t h a l := by
      funext c; fin_cases c <;> first | rfl | exact Fin.ext (show 16 + (l - 16 : ℕ) = l by omega)
    refine (concatenate_pair_apply_right (t := S32x2048x32x2x32) (4 : Fin 5) (val_main_v102 (F := Ideal) x0 x1 x2 x3 x4) (val_main_v109 x0 x1 x2 x3 x4) concatenates_S32x2048x32x2x16_S32x2048x32x2x16_S32x2048x32x2x32_d4 (ix5 b t h a l) rfl rfl (ix5 b t h a (⟨l - 16, by omega⟩ : Fin 16)) (fun c hc => ?_) (show (l - 16 : ℕ) + 16 = l by omega)).trans ?_
    · fin_cases c <;> first | rfl | exact absurd rfl hc
    · rw [val_main_v109_apply, val_main_v105_apply, val_main_v108_apply, val_main_v94_apply, val_main_v95_apply, e1, e2, dif_in, dif_in, cos16', sin16',
        dif, turned, if_neg (by omega), ea, el, show (l : ℕ) % 16 = l - 16 by omega]
      rw [show (3072 + (h * 64 + a * 32 + l) - 16 : ℕ) = 3072 + (h * 64 + a * 32 + (l - 16)) by omega]
      rfl

/-! ## The results -/

theorem sqrt_dk : Host.sqrt (F := Ideal) (constant S_ .f32 0x43000000#32) = fun _ => ((Real.sqrt 128 : ℝ) : EReal) := by
  have e : Ideal.ofBits .f32 0x43000000#32 = ((128 : ℝ) : EReal) := by
    simp [Ideal.ofBits, Ideal.ieee, ← EReal.coe_mul]; norm_num
  funext i
  show Ideal.sqrt (Ideal.ofBits .f32 0x43000000#32) = _
  rw [e, Ideal.sqrt_coe, if_neg (by norm_num)]

theorem result0 (i : Fin 65536) (j : Fin 512) :
    val_main_v127 (F := Ideal) x0 x1 x2 x3 x4 (ix2 i j) = ret x0 x1 x2 x3 x4 (seq i) (tok i) j * (((Real.sqrt 128)⁻¹ : ℝ) : EReal) := by
  have e : idx_main_v126 (ix2 i j) = ix5 (seq i) (tok i) (⟨j / 128, by omega⟩ : Fin 4) (⟨j / 64 % 2, by omega⟩ : Fin 2) (⟨j % 64, by omega⟩ : Fin 64) := by
    funext c; fin_cases c <;> apply Fin.ext <;> simp [seq, tok] <;> omega
  have e' : idx_main_v111 (ix5 (seq i) (tok i) (⟨j / 128, by omega⟩ : Fin 4) (⟨j / 64 % 2, by omega⟩ : Fin 2) (⟨j % 64, by omega⟩ : Fin 64))
      = ix5 (seq i) (tok i) (⟨j / 128, by omega⟩ : Fin 8) (⟨j / 64 % 2, by omega⟩ : Fin 2) (⟨j % 64, by omega⟩ : Fin 64) := by
    funext c; fin_cases c <;> rfl
  have ej : (j / 128 * 128 + j / 64 % 2 * 64 + j % 64 : ℕ) = j := by omega
  rw [val_main_v127_apply, val_main_v126_apply, val_main_v114_apply, val_main_v113_apply, e, val_main_v111_apply, e', ret_apply]
  show Ideal.div (ret x0 x1 x2 x3 x4 (seq i) (tok i) (j / 128 * 128 + j / 64 % 2 * 64 + j % 64)) (Host.sqrt (F := Ideal) (constant S_ .f32 0x43000000#32) _) = _
  rw [ej, sqrt_dk, Ideal.div_coe (Real.sqrt_pos.mpr (by norm_num)).ne', one_div]

theorem result1 (i : Fin 65536) (j : Fin 512) :
    val_main_v129 (F := Ideal) x0 x1 x2 x3 x4 (ix2 i j) = ret x0 x1 x2 x3 x4 (seq i) (tok i) (512 + j) := by
  have e : idx_main_v128 (ix2 i j) = ix5 (seq i) (tok i) (⟨j / 128, by omega⟩ : Fin 4) (⟨j / 64 % 2, by omega⟩ : Fin 2) (⟨j % 64, by omega⟩ : Fin 64) := by
    funext c; fin_cases c <;> apply Fin.ext <;> simp [seq, tok] <;> omega
  have e' : idx_main_v115 (ix5 (seq i) (tok i) (⟨j / 128, by omega⟩ : Fin 4) (⟨j / 64 % 2, by omega⟩ : Fin 2) (⟨j % 64, by omega⟩ : Fin 64))
      = ix5 (seq i) (tok i) (⟨4 + j / 128, by omega⟩ : Fin 8) (⟨j / 64 % 2, by omega⟩ : Fin 2) (⟨j % 64, by omega⟩ : Fin 64) := by
    funext c; fin_cases c <;> rfl
  rw [val_main_v129_apply, val_main_v128_apply, e, val_main_v115_apply, e', ret_apply]
  show ret x0 x1 x2 x3 x4 (seq i) (tok i) ((4 + j / 128) * 128 + j / 64 % 2 * 64 + j % 64) = _
  rw [show ((4 + j / 128) * 128 + j / 64 % 2 * 64 + j % 64 : ℕ) = 512 + j by omega]

theorem eighth : Ideal.ofBits .f32 0x3E000000#32 = (((Real.sqrt 64)⁻¹ : ℝ) : EReal) := by
  have h : Real.sqrt 64 = 8 := by rw [show (64 : ℝ) = 8 ^ 2 by norm_num]; exact Real.sqrt_sq (by norm_num)
  rw [h]
  simp [Ideal.ofBits, Ideal.ieee, ← EReal.coe_mul]; norm_num

theorem log_two : Host.log (F := Ideal) (constant S_ .f32 0x40000000#32) = fun _ => ((Real.log 2 : ℝ) : EReal) := by
  have e : Ideal.ofBits .f32 0x40000000#32 = ((2 : ℝ) : EReal) := by
    simp [Ideal.ofBits, Ideal.ieee, ← EReal.coe_mul]; norm_num
  funext i
  show Ideal.log (Ideal.ofBits .f32 0x40000000#32) = _
  rw [e, Ideal.log_coe, if_neg (by norm_num)]

theorem result4 (i : Fin 65536) (j : Fin 1024) :
    val_main_v133 (F := Ideal) x0 x1 x2 x3 x4 (ix2 i j) = dif x0 x1 x2 x3 x4 (seq i) (tok i) (3072 + j) * (((Real.sqrt 64 * Real.log 2)⁻¹ : ℝ) : EReal) := by
  have e : idx_main_v132 (ix2 i j) = ix5 (seq i) (tok i) (⟨j / 64, by omega⟩ : Fin 16) (⟨j / 32 % 2, by omega⟩ : Fin 2) (⟨j % 32, by omega⟩ : Fin 32) := by
    funext c; fin_cases c <;> apply Fin.ext <;> simp [seq, tok] <;> omega
  have e' : idx_main_v116 (ix5 (seq i) (tok i) (⟨j / 64, by omega⟩ : Fin 16) (⟨j / 32 % 2, by omega⟩ : Fin 2) (⟨j % 32, by omega⟩ : Fin 32))
      = ix5 (seq i) (tok i) (⟨j / 64, by omega⟩ : Fin 32) (⟨j / 32 % 2, by omega⟩ : Fin 2) (⟨j % 32, by omega⟩ : Fin 32) := by
    funext c; fin_cases c <;> rfl
  rw [val_main_v133_apply, val_main_v132_apply, val_main_v121_apply, val_main_v120_apply, val_main_v118_apply, val_main_v117_apply, e, val_main_v116_apply, e', dif_apply]
  show Ideal.div (dif x0 x1 x2 x3 x4 (seq i) (tok i) (3072 + (j / 64 * 64 + j / 32 % 2 * 32 + j % 32)) * Ideal.ofBits .f32 0x3E000000#32)
    (Host.log (F := Ideal) (constant S_ .f32 0x40000000#32) _) = _
  rw [show (3072 + (j / 64 * 64 + j / 32 % 2 * 32 + j % 32) : ℕ) = 3072 + j by omega, eighth, log_two, Ideal.div_coe (Real.log_pos (by norm_num)).ne', mul_assoc, ← EReal.coe_mul,
    one_div, ← mul_inv]

theorem result5 (i : Fin 65536) (j : Fin 1024) :
    val_main_v135 (F := Ideal) x0 x1 x2 x3 x4 (ix2 i j) = dif x0 x1 x2 x3 x4 (seq i) (tok i) (4096 + j) := by
  have e : idx_main_v134 (ix2 i j) = ix5 (seq i) (tok i) (⟨j / 64, by omega⟩ : Fin 16) (⟨j / 32 % 2, by omega⟩ : Fin 2) (⟨j % 32, by omega⟩ : Fin 32) := by
    funext c; fin_cases c <;> apply Fin.ext <;> simp [seq, tok] <;> omega
  have e' : idx_main_v122 (ix5 (seq i) (tok i) (⟨j / 64, by omega⟩ : Fin 16) (⟨j / 32 % 2, by omega⟩ : Fin 2) (⟨j % 32, by omega⟩ : Fin 32))
      = ix5 (seq i) (tok i) (⟨16 + j / 64, by omega⟩ : Fin 32) (⟨j / 32 % 2, by omega⟩ : Fin 2) (⟨j % 32, by omega⟩ : Fin 32) := by
    funext c; fin_cases c <;> rfl
  rw [val_main_v135_apply, val_main_v134_apply, e, val_main_v122_apply, e', dif_apply]
  show dif x0 x1 x2 x3 x4 (seq i) (tok i) (3072 + ((16 + j / 64) * 64 + j / 32 % 2 * 32 + j % 32)) = _
  rw [show (3072 + ((16 + j / 64) * 64 + j / 32 % 2 * 32 + j % 32) : ℕ) = 4096 + j by omega]

end Cert.Latent.Ref

end
-- ==== Proof.Latent.Blocks.lean ====
/- What point `t` reads: rows `512 t` on of the tokens, the modulation of their sequence, the weights, and the tables'
   rows of the tokens' places; so what it computes is the reference's projection, turned or not. -/
module

public import proofs.«01_k».proof.Proof.Latent.Out
public import proofs.«01_k».proof.Proof.Latent.Tables
public import proofs.«01_k».proof.Proof.Latent.RefTurn

@[expose] public section

set_option maxRecDepth 16384

noncomputable section

namespace Cert.Latent

open Idealize.ShloMosaic Idealize.ShloMosaic.TcCoe Idealize.SL.Sem
open Cert.Kernel2Ideal Cert.Kernel2Ideal.Gen
open Idealize.ShloMosaic.Pipeline (Dat)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val / 4, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 4, 0] := (by decide +kernel : ∀ t : Fin grid0.N, _)
theorem idx6 : ∀ t : Fin cfg0.N, win0_6.index t = ![t.val % 4, 0] := (by decide +kernel : ∀ t : Fin grid0.N, _)
theorem idx7 : ∀ t : Fin cfg0.N, win0_7.index t = ![t.val % 4, 0] := (by decide +kernel : ∀ t : Fin grid0.N, _)
theorem idx8 : ∀ t : Fin cfg0.N, win0_8.index t = ![t.val % 4, 0] := (by decide +kernel : ∀ t : Fin grid0.N, _)
theorem idx9 : ∀ t : Fin cfg0.N, win0_9.index t = ![t.val % 4, 0] := (by decide +kernel : ∀ t : Fin grid0.N, _)
theorem idx10 : ∀ t : Fin cfg0.N, win0_10.index t = ![t.val % 4, 0] := (by decide +kernel : ∀ t : Fin grid0.N, _)

variable (m : (ℓ : Loc nD τ sig) → Buf (Elt Ideal) ℓ) (c : Dev nD) (t : Fin cfg0.N)

/-- Argument `b` as launched. -/
abbrev arg (b : Ref sig .tc) := m ((c : Thread nD τ).loc b)

section Arrays
variable (W : (b : Ref sig .tc) → Buf (Elt Ideal) ((c : Thread nD τ).loc b))

/-! A window's block, of whatever contents the arrays have, is its array at the block's places. -/

theorem at1 (y : S1x1024.Idx) (z : S1x1024.Idx) (e : ((cfg0.win 1).blk t).view.emb y = z) :
    (((cfg0.win 1).blk t).view.read (Elt Ideal) (W (Pipeline.arrRef spec0 1)) : S1x1024.Idx → EReal) y = (W main_v82 : S1x1024.Idx → EReal) z := congrArg (W main_v82) e
theorem at5 (y : S512x128.Idx) (z : S2048x128.Idx) (e : ((cfg0.win 5).blk t).view.emb y = z) :
    (((cfg0.win 5).blk t).view.read (Elt Ideal) (W (Pipeline.arrRef spec0 5)) : S512x128.Idx → EReal) y = (W main_v32 : S2048x128.Idx → EReal) z := congrArg (W main_v32) e
theorem at6 (y : S512x128.Idx) (z : S2048x128.Idx) (e : ((cfg0.win 6).blk t).view.emb y = z) :
    (((cfg0.win 6).blk t).view.read (Elt Ideal) (W (Pipeline.arrRef spec0 6)) : S512x128.Idx → EReal) y = (W main_v39 : S2048x128.Idx → EReal) z := congrArg (W main_v39) e
theorem at7 (y : S512x128.Idx) (z : S2048x128.Idx) (e : ((cfg0.win 7).blk t).view.emb y = z) :
    (((cfg0.win 7).blk t).view.read (Elt Ideal) (W (Pipeline.arrRef spec0 7)) : S512x128.Idx → EReal) y = (W main_v40 : S2048x128.Idx → EReal) z := congrArg (W main_v40) e
theorem at8 (y : S512x128.Idx) (z : S2048x128.Idx) (e : ((cfg0.win 8).blk t).view.emb y = z) :
    (((cfg0.win 8).blk t).view.read (Elt Ideal) (W (Pipeline.arrRef spec0 8)) : S512x128.Idx → EReal) y = (W main_v73 : S2048x128.Idx → EReal) z := congrArg (W main_v73) e
theorem at9 (y : S512x128.Idx) (z : S2048x128.Idx) (e : ((cfg0.win 9).blk t).view.emb y = z) :
    (((cfg0.win 9).blk t).view.read (Elt Ideal) (W (Pipeline.arrRef spec0 9)) : S512x128.Idx → EReal) y = (W main_v80 : S2048x128.Idx → EReal) z := congrArg (W main_v80) e
theorem at10 (y : S512x128.Idx) (z : S2048x128.Idx) (e : ((cfg0.win 10).blk t).view.emb y = z) :
    (((cfg0.win 10).blk t).view.read (Elt Ideal) (W (Pipeline.arrRef spec0 10)) : S512x128.Idx → EReal) y = (W main_v81 : S2048x128.Idx → EReal) z := congrArg (W main_v81) e

end Arrays

theorem blk1 (k : Fin 1024) : (iblk m c 1 t : S1x1024.Idx → EReal) (ix2 0 k) = arg m c main_arg1 (ix1 k) := by
  have e : ((cfg0.win 1).blk t).view.emb (ix2 0 k) = ix2 (0 : Fin 1) k := by blk_ext [idx1 t]
  exact (at1 c t (V m c) _ _ e).trans (made1 m c k)
theorem blk4 (k : Fin 1024) (j : Fin 8192) : (iblk m c 4 t : S1024x8192.Idx → EReal) (ix2 k j) = arg m c main_arg4 (ix2 k j) := by
  have e : ((cfg0.win 4).blk t).view.emb (ix2 k j) = ix2 k j := by blk_ext [idx4 t]
  exact (congrArg (V m c main_arg4) e).trans (congrFun (V_main_arg4 m c) _)

section Point
variable (i : Fin 512) (I : Fin 65536) (hI : (I : ℕ) = t.val * 512 + i)
include hI

theorem blk0 (k : Fin 1024) : (iblk m c 0 t : S512x1024.Idx → EReal) (ix2 i k) = arg m c main_arg0 (ix2 I k) := by
  have e : ((cfg0.win 0).blk t).view.emb (ix2 i k) = ix2 I k := by blk_ext [idx0 t]
  exact (congrArg (V m c main_arg0) e).trans (congrFun (V_main_arg0 m c) _)
theorem blk2 (k : Fin 1024) : (iblk m c 2 t : S1x1x1024.Idx → EReal) (ix3 0 0 k) = arg m c main_arg2 (ix3 (Ref.seq I) 0 k) := by
  have h : ((Ref.seq I : Fin 32) : ℕ) = t.val / 4 := show (I : ℕ) / 2048 = _ by omega
  have e : ((cfg0.win 2).blk t).view.emb (ix3 0 0 k) = ix3 (Ref.seq I) (0 : Fin 1) k := by blk_ext [idx2 t]
  exact (congrArg (V m c main_arg2) e).trans (congrFun (V_main_arg2 m c) _)
theorem blk3 (k : Fin 1024) : (iblk m c 3 t : S1x1x1024.Idx → EReal) (ix3 0 0 k) = arg m c main_arg3 (ix3 (Ref.seq I) 0 k) := by
  have h : ((Ref.seq I : Fin 32) : ℕ) = t.val / 4 := show (I : ℕ) / 2048 = _ by omega
  have e : ((cfg0.win 3).blk t).view.emb (ix3 0 0 k) = ix3 (Ref.seq I) (0 : Fin 1) k := by blk_ext [idx3 t]
  exact (congrArg (V m c main_arg3) e).trans (congrFun (V_main_arg3 m c) _)

/-- Row `i` of point `t` is this token of its sequence. -/
theorem tok_point : ((Ref.tok I : Fin 2048) : ℕ) = t.val % 4 * 512 + i := show (I : ℕ) % 2048 = _ by omega

theorem blk5 (l : Fin 128) : (iblk m c 5 t : S512x128.Idx → EReal) (ix2 i l) = cosA 0x42000000#32 (Ref.tok I) (l / 64 % 2) (l % 32) := by
  have h := tok_point t i I hI
  have e : ((cfg0.win 5).blk t).view.emb (ix2 i l) = ix2 (Ref.tok I) l := by blk_ext [idx5 t]
  exact (at5 c t (V m c) _ _ e).trans (entry5 m c _ l)
theorem blk6 (l : Fin 128) : (iblk m c 6 t : S512x128.Idx → EReal) (ix2 i l) = if (l : ℕ) % 64 < 32 then -sinA 0x42000000#32 (Ref.tok I) (l / 64 % 2) (l % 32) else 0 := by
  have h := tok_point t i I hI
  have e : ((cfg0.win 6).blk t).view.emb (ix2 i l) = ix2 (Ref.tok I) l := by blk_ext [idx6 t]
  exact (at6 c t (V m c) _ _ e).trans (entry6 m c _ l)
theorem blk7 (l : Fin 128) : (iblk m c 7 t : S512x128.Idx → EReal) (ix2 i l) = if (l : ℕ) % 64 < 32 then 0 else sinA 0x42000000#32 (Ref.tok I) (l / 64 % 2) (l % 32) := by
  have h := tok_point t i I hI
  have e : ((cfg0.win 7).blk t).view.emb (ix2 i l) = ix2 (Ref.tok I) l := by blk_ext [idx7 t]
  exact (at7 c t (V m c) _ _ e).trans (entry7 m c _ l)
theorem blk8 (l : Fin 128) : (iblk m c 8 t : S512x128.Idx → EReal) (ix2 i l) = cosA 0x41800000#32 (Ref.tok I) (l / 32 % 2) (l % 16) := by
  have h := tok_point t i I hI
  have e : ((cfg0.win 8).blk t).view.emb (ix2 i l) = ix2 (Ref.tok I) l := by blk_ext [idx8 t]
  exact (at8 c t (V m c) _ _ e).trans (entry8 m c _ l)
theorem blk9 (l : Fin 128) : (iblk m c 9 t : S512x128.Idx → EReal) (ix2 i l) = if (l : ℕ) % 32 < 16 then -sinA 0x41800000#32 (Ref.tok I) (l / 32 % 2) (l % 16) else 0 := by
  have h := tok_point t i I hI
  have e : ((cfg0.win 9).blk t).view.emb (ix2 i l) = ix2 (Ref.tok I) l := by blk_ext [idx9 t]
  exact (at9 c t (V m c) _ _ e).trans (entry9 m c _ l)
theorem blk10 (l : Fin 128) : (iblk m c 10 t : S512x128.Idx → EReal) (ix2 i l) = if (l : ℕ) % 32 < 16 then 0 else sinA 0x41800000#32 (Ref.tok I) (l / 32 % 2) (l % 16) := by
  have h := tok_point t i I hI
  have e : ((cfg0.win 10).blk t).view.emb (ix2 i l) = ix2 (Ref.tok I) l := by blk_ext [idx10 t]
  exact (at10 c t (V m c) _ _ e).trans (entry10 m c _ l)

/-- Row `i` of block `t`, projected, is the reference's. -/
theorem proj_point (J : ℕ) :
    projOut (iblk m c 0 t) (iblk m c 1 t) (iblk m c 2 t) (iblk m c 3 t) (iblk m c 4 t) i J
      = Ref.proj (arg m c main_arg0) (arg m c main_arg1) (arg m c main_arg2) (arg m c main_arg3) (arg m c main_arg4) (Ref.seq I) (Ref.tok I) J := by
  have hi : Ref.at_ (Ref.seq I) (Ref.tok I) = I := Fin.ext (by simp only [Ref.at_, Ref.seq, Ref.tok]; omega)
  unfold projOut Ref.proj Ref.row
  rw [hi]
  congr 1
  · exact funext fun k => blk0 m c t i I hI k
  · exact funext fun k => blk1 m c t k
  · exact funext fun k => blk2 m c t i I hI k
  · exact funext fun k => blk3 m c t i I hI k
  · exact funext fun k => funext fun l => blk4 m c t k l

/-- Turned with the retention's tables. -/
theorem ret_point (J : ℕ) :
    turnOut (iblk m c 0 t) (iblk m c 1 t) (iblk m c 2 t) (iblk m c 3 t) (iblk m c 4 t) 32 (iblk m c 5 t) (iblk m c 6 t) (iblk m c 7 t) i J
      = Ref.ret (arg m c main_arg0) (arg m c main_arg1) (arg m c main_arg2) (arg m c main_arg3) (arg m c main_arg4) (Ref.seq I) (Ref.tok I) J := by
  have a : J % 128 / 64 % 2 = J / 64 % 2 := by omega
  have k : J % 128 % 32 = J % 32 := by omega
  have g : J % 128 % 64 = J % (2 * 32) := by omega
  unfold turnOut
  rw [blk5 m c t i I hI, blk6 m c t i I hI, blk7 m c t i I hI, proj_point m c t i I hI, proj_point m c t i I hI, proj_point m c t i I hI, Ref.ret]
  simp only [a, k, g]
  exact turned_eq (.inl rfl) _ _ _ _ _ J rfl rfl

/-- Turned with the attention's tables. -/
theorem dif_point (J : ℕ) :
    turnOut (iblk m c 0 t) (iblk m c 1 t) (iblk m c 2 t) (iblk m c 3 t) (iblk m c 4 t) 16 (iblk m c 8 t) (iblk m c 9 t) (iblk m c 10 t) i J
      = Ref.dif (arg m c main_arg0) (arg m c main_arg1) (arg m c main_arg2) (arg m c main_arg3) (arg m c main_arg4) (Ref.seq I) (Ref.tok I) J := by
  have a : J % 128 / 32 % 2 = J / 32 % 2 := by omega
  have k : J % 128 % 16 = J % 16 := by omega
  have g : J % 128 % 32 = J % (2 * 16) := by omega
  unfold turnOut
  rw [blk8 m c t i I hI, blk9 m c t i I hI, blk10 m c t i I hI, proj_point m c t i I hI, proj_point m c t i I hI, proj_point m c t i I hI, Ref.dif]
  simp only [a, k, g]
  exact turned_eq (.inr rfl) _ _ _ _ _ J rfl rfl

end Point

end Cert.Latent

end
-- ==== Proof.Latent.Final.lean ====
/- The latent projection's nine output arrays are the reference's results: point `t` computes rows `512 t` on. -/
module

public import proofs.«01_k».proof.Proof.Latent.Blocks
public import proofs.«01_k».proof.Proof.Gen.Kernel2Ideal.Value

@[expose] public section

set_option maxRecDepth 16384

noncomputable section

namespace Cert.Latent

open Idealize.ShloMosaic Idealize.ShloMosaic.TcCoe Idealize.SL.Sem
open Cert.Kernel2Ideal Cert.Kernel2Ideal.Gen
open Idealize.ShloMosaic.Pipeline (Dat)

theorem idx11 : ∀ t : Fin cfg0.N, win0_11.index t = ![t.val, 0] := (by decide +kernel : ∀ t : Fin grid0.N, _)
theorem covers11 : ((cfgs 0).win 11).Covers := by decide +kernel
theorem idx12 : ∀ t : Fin cfg0.N, win0_12.index t = ![t.val, 0] := (by decide +kernel : ∀ t : Fin grid0.N, _)
theorem covers12 : ((cfgs 0).win 12).Covers := by decide +kernel
theorem idx13 : ∀ t : Fin cfg0.N, win0_13.index t = ![t.val, 0] := (by decide +kernel : ∀ t : Fin grid0.N, _)
theorem covers13 : ((cfgs 0).win 13).Covers := by decide +kernel
theorem idx14 : ∀ t : Fin cfg0.N, win0_14.index t = ![t.val, 0] := (by decide +kernel : ∀ t : Fin grid0.N, _)
theorem covers14 : ((cfgs 0).win 14).Covers := by decide +kernel
theorem idx15 : ∀ t : Fin cfg0.N, win0_15.index t = ![t.val, 0] := (by decide +kernel : ∀ t : Fin grid0.N, _)
theorem covers15 : ((cfgs 0).win 15).Covers := by decide +kernel
theorem idx16 : ∀ t : Fin cfg0.N, win0_16.index t = ![t.val, 0] := (by decide +kernel : ∀ t : Fin grid0.N, _)
theorem covers16 : ((cfgs 0).win 16).Covers := by decide +kernel
theorem idx17 : ∀ t : Fin cfg0.N, win0_17.index t = ![t.val, 0] := (by decide +kernel : ∀ t : Fin grid0.N, _)
theorem covers17 : ((cfgs 0).win 17).Covers := by decide +kernel
theorem idx18 : ∀ t : Fin cfg0.N, win0_18.index t = ![t.val, 0] := (by decide +kernel : ∀ t : Fin grid0.N, _)
theorem covers18 : ((cfgs 0).win 18).Covers := by decide +kernel
theorem idx19 : ∀ t : Fin cfg0.N, win0_19.index t = ![t.val, 0] := (by decide +kernel : ∀ t : Fin grid0.N, _)
theorem covers19 : ((cfgs 0).win 19).Covers := by decide +kernel

theorem named_dk : Named.named (F := Ideal) (φ := .f32) κ "inv_sqrt_dk" 0x3DB504F3#32 = (((Real.sqrt 128)⁻¹ : ℝ) : EReal) :=
  IdealRules.named_const.ideal_named_scalar _ _ _ _ rfl
theorem named_log : Named.named (F := Ideal) (φ := .f32) κ "log2e_over_sqrt_d" 0x3E38AA3B#32 = (((Real.sqrt 64 * Real.log 2)⁻¹ : ℝ) : EReal) :=
  IdealRules.named_const.ideal_named_scalar _ _ _ _ rfl

variable (m : (ℓ : Loc nD τ sig) → Buf (Elt Ideal) ℓ) (c : Dev nD)

abbrev REF0 : FVec Ideal S65536x512 .bf16 :=
  Cert.Reference2Ideal.Read.val_main_v127 (F := Ideal) (arg m c main_arg0) (arg m c main_arg1) (arg m c main_arg2) (arg m c main_arg3) (arg m c main_arg4)

theorem final0 : (dats m 0 c).arrAt 11 (cfgs 0).N = REF0 m c := by
  refine (dats m 0 c).arrAt_eq_of_covers 11 _ covers11 fun t _ y => ?_
  blk_simp
  rw [after0_11]
  obtain ⟨i, j, rfl⟩ : ∃ (i : Fin 512) (j : Fin 512), y = ix2 i j := ⟨y 0, y 1, eq_ix2 y⟩
  have ht : t.val < 128 := t.isLt
  have e : ((cfg0.win 11).blk t).view.emb (ix2 i j) = ix2 (⟨t.val * 512 + i, by omega⟩ : Fin 65536) j := by
    blk_ext [idx11 t]
  exact (out11 _ _ _ _ _ _ _ _ _ _ _ _).trans (((congrArg (fun v : EReal => v * Named.named (F := Ideal) (φ := .f32) κ "inv_sqrt_dk" 0x3DB504F3#32) (ret_point m c t i _ rfl _)).trans (congrArg (fun v : EReal => _ * v) named_dk)).trans ((Ref.result0 _ _ _ _ _ _ _).symm.trans (congrArg (REF0 m c) e.symm)))

abbrev REF1 : FVec Ideal S65536x512 .bf16 :=
  Cert.Reference2Ideal.Read.val_main_v129 (F := Ideal) (arg m c main_arg0) (arg m c main_arg1) (arg m c main_arg2) (arg m c main_arg3) (arg m c main_arg4)

theorem final1 : (dats m 0 c).arrAt 12 (cfgs 0).N = REF1 m c := by
  refine (dats m 0 c).arrAt_eq_of_covers 12 _ covers12 fun t _ y => ?_
  blk_simp
  rw [after0_12]
  obtain ⟨i, j, rfl⟩ : ∃ (i : Fin 512) (j : Fin 512), y = ix2 i j := ⟨y 0, y 1, eq_ix2 y⟩
  have ht : t.val < 128 := t.isLt
  have e : ((cfg0.win 12).blk t).view.emb (ix2 i j) = ix2 (⟨t.val * 512 + i, by omega⟩ : Fin 65536) j := by
    blk_ext [idx12 t]
  exact (out12 _ _ _ _ _ _ _ _ _ _ _ _).trans ((ret_point m c t i _ rfl _).trans ((Ref.result1 _ _ _ _ _ _ _).symm.trans (congrArg (REF1 m c) e.symm)))

abbrev REF2 : FVec Ideal S65536x1024 .bf16 :=
  Cert.Reference2Ideal.Read.val_main_v130 (F := Ideal) (arg m c main_arg0) (arg m c main_arg1) (arg m c main_arg2) (arg m c main_arg3) (arg m c main_arg4)

theorem final2 : (dats m 0 c).arrAt 13 (cfgs 0).N = REF2 m c := by
  refine (dats m 0 c).arrAt_eq_of_covers 13 _ covers13 fun t _ y => ?_
  blk_simp
  rw [after0_13]
  obtain ⟨i, j, rfl⟩ : ∃ (i : Fin 512) (j : Fin 1024), y = ix2 i j := ⟨y 0, y 1, eq_ix2 y⟩
  have ht : t.val < 128 := t.isLt
  have e : ((cfg0.win 13).blk t).view.emb (ix2 i j) = ix2 (⟨t.val * 512 + i, by omega⟩ : Fin 65536) j := by
    blk_ext [idx13 t]
  exact (out13 _ _ _ _ _ _ _ _ _ _ _ _).trans ((proj_point m c t i _ rfl _).trans ((Ref.result2 _ _ _ _ _ _ _).symm.trans (congrArg (REF2 m c) e.symm)))

abbrev REF3 : FVec Ideal S65536x1024 .bf16 :=
  Cert.Reference2Ideal.Read.val_main_v131 (F := Ideal) (arg m c main_arg0) (arg m c main_arg1) (arg m c main_arg2) (arg m c main_arg3) (arg m c main_arg4)

theorem final3 : (dats m 0 c).arrAt 14 (cfgs 0).N = REF3 m c := by
  refine (dats m 0 c).arrAt_eq_of_covers 14 _ covers14 fun t _ y => ?_
  blk_simp
  rw [after0_14]
  obtain ⟨i, j, rfl⟩ : ∃ (i : Fin 512) (j : Fin 1024), y = ix2 i j := ⟨y 0, y 1, eq_ix2 y⟩
  have ht : t.val < 128 := t.isLt
  have e : ((cfg0.win 14).blk t).view.emb (ix2 i j) = ix2 (⟨t.val * 512 + i, by omega⟩ : Fin 65536) j := by
    blk_ext [idx14 t]
  exact (out14 _ _ _ _ _ _ _ _ _ _ _ _).trans ((congrArg (fun v : EReal => v * Ideal.logistic v) (proj_point m c t i _ rfl _)).trans ((Ref.result3 _ _ _ _ _ _ _).symm.trans (congrArg (REF3 m c) e.symm)))

abbrev REF4 : FVec Ideal S65536x1024 .bf16 :=
  Cert.Reference2Ideal.Read.val_main_v133 (F := Ideal) (arg m c main_arg0) (arg m c main_arg1) (arg m c main_arg2) (arg m c main_arg3) (arg m c main_arg4)

theorem final4 : (dats m 0 c).arrAt 15 (cfgs 0).N = REF4 m c := by
  refine (dats m 0 c).arrAt_eq_of_covers 15 _ covers15 fun t _ y => ?_
  blk_simp
  rw [after0_15]
  obtain ⟨i, j, rfl⟩ : ∃ (i : Fin 512) (j : Fin 1024), y = ix2 i j := ⟨y 0, y 1, eq_ix2 y⟩
  have ht : t.val < 128 := t.isLt
  have e : ((cfg0.win 15).blk t).view.emb (ix2 i j) = ix2 (⟨t.val * 512 + i, by omega⟩ : Fin 65536) j := by
    blk_ext [idx15 t]
  exact (out15 _ _ _ _ _ _ _ _ _ _ _ _).trans (((congrArg (fun v : EReal => v * Named.named (F := Ideal) (φ := .f32) κ "log2e_over_sqrt_d" 0x3E38AA3B#32) (dif_point m c t i _ rfl _)).trans (congrArg (fun v : EReal => _ * v) named_log)).trans ((Ref.result4 _ _ _ _ _ _ _).symm.trans (congrArg (REF4 m c) e.symm)))

abbrev REF5 : FVec Ideal S65536x1024 .bf16 :=
  Cert.Reference2Ideal.Read.val_main_v135 (F := Ideal) (arg m c main_arg0) (arg m c main_arg1) (arg m c main_arg2) (arg m c main_arg3) (arg m c main_arg4)

theorem final5 : (dats m 0 c).arrAt 16 (cfgs 0).N = REF5 m c := by
  refine (dats m 0 c).arrAt_eq_of_covers 16 _ covers16 fun t _ y => ?_
  blk_simp
  rw [after0_16]
  obtain ⟨i, j, rfl⟩ : ∃ (i : Fin 512) (j : Fin 1024), y = ix2 i j := ⟨y 0, y 1, eq_ix2 y⟩
  have ht : t.val < 128 := t.isLt
  have e : ((cfg0.win 16).blk t).view.emb (ix2 i j) = ix2 (⟨t.val * 512 + i, by omega⟩ : Fin 65536) j := by
    blk_ext [idx16 t]
  exact (out16 _ _ _ _ _ _ _ _ _ _ _ _).trans ((dif_point m c t i _ rfl _).trans ((Ref.result5 _ _ _ _ _ _ _).symm.trans (congrArg (REF5 m c) e.symm)))

abbrev REF6 : FVec Ideal S65536x1024 .bf16 :=
  Cert.Reference2Ideal.Read.val_main_v136 (F := Ideal) (arg m c main_arg0) (arg m c main_arg1) (arg m c main_arg2) (arg m c main_arg3) (arg m c main_arg4)

theorem final6 : (dats m 0 c).arrAt 17 (cfgs 0).N = REF6 m c := by
  refine (dats m 0 c).arrAt_eq_of_covers 17 _ covers17 fun t _ y => ?_
  blk_simp
  rw [after0_17]
  obtain ⟨i, j, rfl⟩ : ∃ (i : Fin 512) (j : Fin 1024), y = ix2 i j := ⟨y 0, y 1, eq_ix2 y⟩
  have ht : t.val < 128 := t.isLt
  have e : ((cfg0.win 17).blk t).view.emb (ix2 i j) = ix2 (⟨t.val * 512 + i, by omega⟩ : Fin 65536) j := by
    blk_ext [idx17 t]
  exact (out17 _ _ _ _ _ _ _ _ _ _ _ _).trans ((proj_point m c t i _ rfl _).trans ((Ref.result6 _ _ _ _ _ _ _).symm.trans (congrArg (REF6 m c) e.symm)))

abbrev REF7 : FVec Ideal S65536x1024 .bf16 :=
  Cert.Reference2Ideal.Read.val_main_v137 (F := Ideal) (arg m c main_arg0) (arg m c main_arg1) (arg m c main_arg2) (arg m c main_arg3) (arg m c main_arg4)

theorem final7 : (dats m 0 c).arrAt 18 (cfgs 0).N = REF7 m c := by
  refine (dats m 0 c).arrAt_eq_of_covers 18 _ covers18 fun t _ y => ?_
  blk_simp
  rw [after0_18]
  obtain ⟨i, j, rfl⟩ : ∃ (i : Fin 512) (j : Fin 1024), y = ix2 i j := ⟨y 0, y 1, eq_ix2 y⟩
  have ht : t.val < 128 := t.isLt
  have e : ((cfg0.win 18).blk t).view.emb (ix2 i j) = ix2 (⟨t.val * 512 + i, by omega⟩ : Fin 65536) j := by
    blk_ext [idx18 t]
  exact (out18 _ _ _ _ _ _ _ _ _ _ _ _).trans ((congrArg Ideal.logistic (proj_point m c t i _ rfl _)).trans ((Ref.result7 _ _ _ _ _ _ _).symm.trans (congrArg (REF7 m c) e.symm)))

abbrev REF8 : FVec Ideal S65536x1024 .bf16 :=
  Cert.Reference2Ideal.Read.val_main_v138 (F := Ideal) (arg m c main_arg0) (arg m c main_arg1) (arg m c main_arg2) (arg m c main_arg3) (arg m c main_arg4)

theorem final8 : (dats m 0 c).arrAt 19 (cfgs 0).N = REF8 m c := by
  refine (dats m 0 c).arrAt_eq_of_covers 19 _ covers19 fun t _ y => ?_
  blk_simp
  rw [after0_19]
  obtain ⟨i, j, rfl⟩ : ∃ (i : Fin 512) (j : Fin 1024), y = ix2 i j := ⟨y 0, y 1, eq_ix2 y⟩
  have ht : t.val < 128 := t.isLt
  have e : ((cfg0.win 19).blk t).view.emb (ix2 i j) = ix2 (⟨t.val * 512 + i, by omega⟩ : Fin 65536) j := by
    blk_ext [idx19 t]
  exact (out19 _ _ _ _ _ _ _ _ _ _ _ _).trans ((congrArg Ideal.logistic (proj_point m c t i _ rfl _)).trans ((Ref.result8 _ _ _ _ _ _ _).symm.trans (congrArg (REF8 m c) e.symm)))

end Cert.Latent

end
-- ==== Proof.Latent.Claims.lean ====
/- The five claims of the latent projection: both programs run and leave their arguments, the kernel's text is the same but for
   two constants called by their values, and its nine results are the reference's. -/
module

public import proofs.«01_k».proof.Defs
public import proofs.«01_k».proof.Proof.Latent.Final
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Latent

open Idealize.ShloMosaic Idealize.ShloMosaic.TcCoe Idealize.SL.Sem

theorem frame_kernel : Cert.quiescent_Kernel2 := fun m ρ _ => Cert.Kernel2.Gen.frame m ρ
theorem frame_ideal : Cert.quiescent_Kernel2Ideal := fun m ρ _ => Cert.Kernel2Ideal.Gen.frame m ρ

/-- The reference's run from any memory: it has no semaphore, and its arguments end as they were. -/
theorem frame_reference : Cert.quiescent_Reference2Ideal := fun m ρ _ =>
  (θ_run Cert.Reference2Ideal.defs _ _).mono (fun r h => ⟨fun c => (h c).2.2.2.2.2.2.2.2.2, sem_eq_zero_of_no_sems (by decide) r.2⟩)
    (Cert.Reference2Ideal.Value.run (F := Ideal) m ρ)

/-- The two constants called by their values. -/
theorem preserves : Cert.preserves_Kernel2_Kernel2Ideal :=
  ⟨IdealRules.named_const.statement Cert.Kernel2Ideal.κ "inv_sqrt_dk" .f32 0x3DB504F3#32 (((Real.sqrt 128)⁻¹ : ℝ) : EReal) rfl,
    IdealRules.named_const.statement Cert.Kernel2Ideal.κ "log2e_over_sqrt_d" .f32 0x3E38AA3B#32 ((((Real.sqrt 64) * (Real.log 2))⁻¹ : ℝ) : EReal) rfl⟩

theorem algebraic : Cert.algebraic_Kernel2Ideal_Reference2Ideal := by
  intro m ρ m' ρ' _ hagree
  refine ⟨fun c => REF0 m c, fun c => REF1 m c, fun c => REF2 m c, fun c => REF3 m c, fun c => REF4 m c, fun c => REF5 m c, fun c => REF6 m c, fun c => REF7 m c, fun c => REF8 m c,
    (θ_run Cert.Kernel2Ideal.defs _ _).mono (fun _ h c => ⟨(h c).1.trans (final0 m c), (h c).2.1.trans (final1 m c), (h c).2.2.1.trans (final2 m c), (h c).2.2.2.1.trans (final3 m c), (h c).2.2.2.2.1.trans (final4 m c), (h c).2.2.2.2.2.1.trans (final5 m c), (h c).2.2.2.2.2.2.1.trans (final6 m c), (h c).2.2.2.2.2.2.2.1.trans (final7 m c), (h c).2.2.2.2.2.2.2.2.1.trans (final8 m c), (h c).2.2.2.2.2.2.2.2.2⟩)
      (Cert.Kernel2Ideal.Value.run_blocks (F := Ideal) m ρ),
    (θ_run Cert.Reference2Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.Reference2Ideal.Value.run (F := Ideal) m' ρ')⟩
  all_goals obtain ⟨h0, h1, h2, h3, h4⟩ := hagree c
  · rw [Cert.Reference2Ideal.Read.val_main_v127_eq, h0, h1, h2, h3, h4]
  · rw [Cert.Reference2Ideal.Read.val_main_v129_eq, h0, h1, h2, h3, h4]
  · rw [Cert.Reference2Ideal.Read.val_main_v130_eq, h0, h1, h2, h3, h4]
  · rw [Cert.Reference2Ideal.Read.val_main_v131_eq, h0, h1, h2, h3, h4]
  · rw [Cert.Reference2Ideal.Read.val_main_v133_eq, h0, h1, h2, h3, h4]
  · rw [Cert.Reference2Ideal.Read.val_main_v135_eq, h0, h1, h2, h3, h4]
  · rw [Cert.Reference2Ideal.Read.val_main_v136_eq, h0, h1, h2, h3, h4]
  · rw [Cert.Reference2Ideal.Read.val_main_v137_eq, h0, h1, h2, h3, h4]
  · rw [Cert.Reference2Ideal.Read.val_main_v138_eq, h0, h1, h2, h3, h4]

end Cert.Latent

end
-- ==== Proof.lean ====
module

public import proofs.«01_k».proof.Defs
public import proofs.«01_k».proof.Proof.Attention.Claims
public import proofs.«01_k».proof.Proof.Context.Claims
public import proofs.«01_k».proof.Proof.Merge.Claims
public import proofs.«01_k».proof.Proof.Latent.Claims
public import proofs.«01_k».proof.Proof.Gen.Kernel
public import proofs.«01_k».proof.Proof.Gen.KernelIdeal
public import proofs.«01_k».proof.Proof.Gen.ReferenceIdeal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel2
public import proofs.«01_k».proof.Proof.Gen.Kernel2Ideal
public import proofs.«01_k».proof.Proof.Gen.Reference2Ideal
public import proofs.«01_k».proof.Proof.Gen.Pre_finite
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel2.Gen.facts, Cert.Kernel2Ideal.Gen.facts, Cert.Reference2Ideal.Gen.facts, Cert.Pre_finite.Gen.facts,
    Attention.frame_kernel, Attention.frame_ideal, Attention.frame_ideal_finite, Attention.frame_reference, Attention.frame_reference_finite,
    Context.frame_kernel, Context.frame_ideal, Context.frame_reference,
    Merge.frame_kernel, Merge.frame_ideal, Merge.frame_reference,
    Latent.frame_kernel, Latent.frame_ideal, Latent.frame_reference,
    trivial, Attention.algebraic, trivial, Context.algebraic, trivial, Merge.algebraic, Latent.preserves, Latent.algebraic⟩

end Cert.Proof

end
